-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S18 : Shape := ⟨1, ![18]⟩
abbrev S_ : Shape := ⟨0, ![]⟩
abbrev S1 : Shape := ⟨1, ![1]⟩
abbrev S32x1024 : Shape := ⟨2, ![32, 1024]⟩
abbrev S1x32x1024 : Shape := ⟨3, ![1, 32, 1024]⟩
abbrev S16x1024 : Shape := ⟨2, ![16, 1024]⟩
abbrev S1x16x1024 : Shape := ⟨3, ![1, 16, 1024]⟩
abbrev S8x1024 : Shape := ⟨2, ![8, 1024]⟩
abbrev S1x8x1024 : Shape := ⟨3, ![1, 8, 1024]⟩
abbrev S32 : Shape := ⟨1, ![32]⟩
abbrev S32x1 : Shape := ⟨2, ![32, 1]⟩
abbrev S16 : Shape := ⟨1, ![16]⟩
abbrev S16x1 : Shape := ⟨2, ![16, 1]⟩
abbrev S8 : Shape := ⟨1, ![8]⟩
abbrev S8x1 : Shape := ⟨2, ![8, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  (ofTc nBuf bufTy 1 76 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_12 : BitVec 32) : Fin 3 → Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v18 : BitVec 32 := Scalar.addi v17 c0_i32_12
  let c0_i32_21 : BitVec 32 := 0#32
  ![0, v18.toNat, 0]
def k0_dev3 (d0 : Dev nD) : Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_16 : BitVec 32 := 2#32
  let v19 : BitVec 32 := Scalar.muli v2 c2_i32_16
  let v20 : BitVec 32 := Scalar.addi c0_i32_17 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_18 : BitVec 32 := 1#32
  let v21 : BitVec 32 := Scalar.muli v6 c1_i32_18
  let v22 : BitVec 32 := Scalar.addi v20 v21
  v22.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v31 : BitVec 32 := Scalar.muli v2 c2_i32_25
  let v32 : BitVec 32 := Scalar.addi c0_i32_26 v31
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v33 : BitVec 32 := Scalar.muli v6 c1_i32_27
  let v34 : BitVec 32 := Scalar.addi v32 v33
  v34.toNat
def k0_dev5 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v43 : BitVec 32 := Scalar.muli v2 c2_i32_34
  let v44 : BitVec 32 := Scalar.addi c0_i32_35 v43
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_36 : BitVec 32 := 1#32
  let v45 : BitVec 32 := Scalar.muli v6 c1_i32_36
  let v46 : BitVec 32 := Scalar.addi v44 v45
  v46.toNat
def k0_dev6 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v55 : BitVec 32 := Scalar.muli v2 c2_i32_42
  let v56 : BitVec 32 := Scalar.addi c0_i32_43 v55
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_44 : BitVec 32 := 1#32
  let v57 : BitVec 32 := Scalar.muli v6 c1_i32_44
  let v58 : BitVec 32 := Scalar.addi v56 v57
  v58.toNat
def k0_dev7 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v67 : BitVec 32 := Scalar.muli v2 c2_i32_50
  let v68 : BitVec 32 := Scalar.addi c0_i32_51 v67
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_52 : BitVec 32 := 1#32
  let v69 : BitVec 32 := Scalar.muli v6 c1_i32_52
  let v70 : BitVec 32 := Scalar.addi v68 v69
  v70.toNat
def k0_dev8 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v79 : BitVec 32 := Scalar.muli v2 c2_i32_58
  let v80 : BitVec 32 := Scalar.addi c0_i32_59 v79
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_60 : BitVec 32 := 1#32
  let v81 : BitVec 32 := Scalar.muli v6 c1_i32_60
  let v82 : BitVec 32 := Scalar.addi v80 v81
  v82.toNat
def k0_dev9 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v91 : BitVec 32 := Scalar.muli v2 c2_i32_66
  let v92 : BitVec 32 := Scalar.addi c0_i32_67 v91
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_68 : BitVec 32 := 1#32
  let v93 : BitVec 32 := Scalar.muli v6 c1_i32_68
  let v94 : BitVec 32 := Scalar.addi v92 v93
  v94.toNat
def k0_dev10 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v103 : BitVec 32 := Scalar.muli v2 c2_i32_74
  let v104 : BitVec 32 := Scalar.addi c0_i32_75 v103
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_76 : BitVec 32 := 1#32
  let v105 : BitVec 32 := Scalar.muli v6 c1_i32_76
  let v106 : BitVec 32 := Scalar.addi v104 v105
  v106.toNat
def k0_dev11 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v115 : BitVec 32 := Scalar.muli v2 c2_i32_82
  let v116 : BitVec 32 := Scalar.addi c0_i32_83 v115
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_84 : BitVec 32 := 1#32
  let v117 : BitVec 32 := Scalar.muli v6 c1_i32_84
  let v118 : BitVec 32 := Scalar.addi v116 v117
  v118.toNat
def k0_dev12 (d0 : Dev nD) : Nat :=
  let c0_i32_91 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_90 : BitVec 32 := 2#32
  let v127 : BitVec 32 := Scalar.muli v2 c2_i32_90
  let v128 : BitVec 32 := Scalar.addi c0_i32_91 v127
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_92 : BitVec 32 := 1#32
  let v129 : BitVec 32 := Scalar.muli v6 c1_i32_92
  let v130 : BitVec 32 := Scalar.addi v128 v129
  v130.toNat
def k0_dev13 (d0 : Dev nD) : Nat :=
  let c0_i32_99 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_98 : BitVec 32 := 2#32
  let v139 : BitVec 32 := Scalar.muli v2 c2_i32_98
  let v140 : BitVec 32 := Scalar.addi c0_i32_99 v139
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_100 : BitVec 32 := 1#32
  let v141 : BitVec 32 := Scalar.muli v6 c1_i32_100
  let v142 : BitVec 32 := Scalar.addi v140 v141
  v142.toNat
def k0_dev14 (d0 : Dev nD) : Nat :=
  let c0_i32_107 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_106 : BitVec 32 := 2#32
  let v151 : BitVec 32 := Scalar.muli v2 c2_i32_106
  let v152 : BitVec 32 := Scalar.addi c0_i32_107 v151
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_108 : BitVec 32 := 1#32
  let v153 : BitVec 32 := Scalar.muli v6 c1_i32_108
  let v154 : BitVec 32 := Scalar.addi v152 v153
  v154.toNat
def k0_dev15 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v163 : BitVec 32 := Scalar.muli v2 c2_i32_114
  let v164 : BitVec 32 := Scalar.addi c0_i32_115 v163
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_116 : BitVec 32 := 1#32
  let v165 : BitVec 32 := Scalar.muli v6 c1_i32_116
  let v166 : BitVec 32 := Scalar.addi v164 v165
  v166.toNat
def k0_dev16 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v175 : BitVec 32 := Scalar.muli v2 c2_i32_122
  let v176 : BitVec 32 := Scalar.addi c0_i32_123 v175
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_124 : BitVec 32 := 1#32
  let v177 : BitVec 32 := Scalar.muli v6 c1_i32_124
  let v178 : BitVec 32 := Scalar.addi v176 v177
  v178.toNat
def k0_dev17 (d0 : Dev nD) : Nat :=
  let c0_i32_131 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_130 : BitVec 32 := 2#32
  let v187 : BitVec 32 := Scalar.muli v2 c2_i32_130
  let v188 : BitVec 32 := Scalar.addi c0_i32_131 v187
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_132 : BitVec 32 := 1#32
  let v189 : BitVec 32 := Scalar.muli v6 c1_i32_132
  let v190 : BitVec 32 := Scalar.addi v188 v189
  v190.toNat
def k0_off2 (d0 : Dev nD) : Fin 3 → Nat :=
  let c0_i32_136 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c480_i32 : BitVec 32 := 480#32
  let v198 : BitVec 32 := Scalar.addi v17 c480_i32
  let c0_i32_143 : BitVec 32 := 0#32
  ![0, v198.toNat, 0]
def k0_dev18 (d0 : Dev nD) : Nat :=
  let c0_i32_139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_138 : BitVec 32 := 2#32
  let v199 : BitVec 32 := Scalar.muli v2 c2_i32_138
  let v200 : BitVec 32 := Scalar.addi c0_i32_139 v199
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_140 : BitVec 32 := 1#32
  let v201 : BitVec 32 := Scalar.muli v6 c1_i32_140
  let v202 : BitVec 32 := Scalar.addi v200 v201
  v202.toNat
def k0_off3 (d0 : Dev nD) (c496_i32 : BitVec 32) : Fin 3 → Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v210 : BitVec 32 := Scalar.addi v17 c496_i32
  let c0_i32_151 : BitVec 32 := 0#32
  ![0, v210.toNat, 0]
def k0_dev19 (d0 : Dev nD) : Nat :=
  let c0_i32_147 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_146 : BitVec 32 := 2#32
  let v211 : BitVec 32 := Scalar.muli v2 c2_i32_146
  let v212 : BitVec 32 := Scalar.addi c0_i32_147 v211
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_148 : BitVec 32 := 1#32
  let v213 : BitVec 32 := Scalar.muli v6 c1_i32_148
  let v214 : BitVec 32 := Scalar.addi v212 v213
  v214.toNat
def k0_dev20 (d0 : Dev nD) : Nat :=
  let c0_i32_155 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_154 : BitVec 32 := 2#32
  let v223 : BitVec 32 := Scalar.muli v2 c2_i32_154
  let v224 : BitVec 32 := Scalar.addi c0_i32_155 v223
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_156 : BitVec 32 := 1#32
  let v225 : BitVec 32 := Scalar.muli v6 c1_i32_156
  let v226 : BitVec 32 := Scalar.addi v224 v225
  v226.toNat
def k0_off4 (d0 : Dev nD) (c0_i32_169 : BitVec 32) : Fin 3 → Nat :=
  let c0 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v243 : BitVec 32 := Scalar.addi v17 c0_i32_169
  let v244 : Index := Scalar.indexCast v243
  let c0_170 : Index := 0#32
  ![0, v244.toNat, 0]
def k0_off5 (d0 : Dev nD) (c0_i32_169 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v243 : BitVec 32 := Scalar.addi v17 c0_i32_169
  let v249 : Index := Scalar.indexCast v243
  let c0_173 : Index := 0#32
  ![v249.toNat, 0]
def k0_off6 (d0 : Dev nD) (c0_i32_169 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v243 : BitVec 32 := Scalar.addi v17 c0_i32_169
  let c0_i32_184 : BitVec 32 := 0#32
  ![v243.toNat, 0]
def k0_dev21 (d0 : Dev nD) : Nat :=
  let c0_i32_182 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_181 : BitVec 32 := 2#32
  let v269 : BitVec 32 := Scalar.muli v7 c2_i32_181
  let v270 : BitVec 32 := Scalar.addi c0_i32_182 v269
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_183 : BitVec 32 := 1#32
  let v271 : BitVec 32 := Scalar.muli v5 c1_i32_183
  let v272 : BitVec 32 := Scalar.addi v270 v271
  v272.toNat
def k0_dev22 (d0 : Dev nD) : Nat :=
  let c0_i32_209 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_208 : BitVec 32 := 2#32
  let v314 : BitVec 32 := Scalar.muli v7 c2_i32_208
  let v315 : BitVec 32 := Scalar.addi c0_i32_209 v314
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_210 : BitVec 32 := 1#32
  let v316 : BitVec 32 := Scalar.muli v5 c1_i32_210
  let v317 : BitVec 32 := Scalar.addi v315 v316
  v317.toNat
def k0_dev23 (d0 : Dev nD) : Nat :=
  let c0_i32_236 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_235 : BitVec 32 := 2#32
  let v359 : BitVec 32 := Scalar.muli v7 c2_i32_235
  let v360 : BitVec 32 := Scalar.addi c0_i32_236 v359
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_237 : BitVec 32 := 1#32
  let v361 : BitVec 32 := Scalar.muli v5 c1_i32_237
  let v362 : BitVec 32 := Scalar.addi v360 v361
  v362.toNat
def k0_dev24 (d0 : Dev nD) : Nat :=
  let c0_i32_263 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_262 : BitVec 32 := 2#32
  let v404 : BitVec 32 := Scalar.muli v7 c2_i32_262
  let v405 : BitVec 32 := Scalar.addi c0_i32_263 v404
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_264 : BitVec 32 := 1#32
  let v406 : BitVec 32 := Scalar.muli v5 c1_i32_264
  let v407 : BitVec 32 := Scalar.addi v405 v406
  v407.toNat
def k0_dev25 (d0 : Dev nD) : Nat :=
  let c0_i32_290 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_289 : BitVec 32 := 2#32
  let v449 : BitVec 32 := Scalar.muli v7 c2_i32_289
  let v450 : BitVec 32 := Scalar.addi c0_i32_290 v449
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_291 : BitVec 32 := 1#32
  let v451 : BitVec 32 := Scalar.muli v5 c1_i32_291
  let v452 : BitVec 32 := Scalar.addi v450 v451
  v452.toNat
def k0_dev26 (d0 : Dev nD) : Nat :=
  let c0_i32_317 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_316 : BitVec 32 := 2#32
  let v494 : BitVec 32 := Scalar.muli v7 c2_i32_316
  let v495 : BitVec 32 := Scalar.addi c0_i32_317 v494
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_318 : BitVec 32 := 1#32
  let v496 : BitVec 32 := Scalar.muli v5 c1_i32_318
  let v497 : BitVec 32 := Scalar.addi v495 v496
  v497.toNat
def k0_dev27 (d0 : Dev nD) : Nat :=
  let c0_i32_344 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_343 : BitVec 32 := 2#32
  let v539 : BitVec 32 := Scalar.muli v7 c2_i32_343
  let v540 : BitVec 32 := Scalar.addi c0_i32_344 v539
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_345 : BitVec 32 := 1#32
  let v541 : BitVec 32 := Scalar.muli v5 c1_i32_345
  let v542 : BitVec 32 := Scalar.addi v540 v541
  v542.toNat
def k0_dev28 (d0 : Dev nD) : Nat :=
  let c0_i32_371 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_370 : BitVec 32 := 2#32
  let v584 : BitVec 32 := Scalar.muli v7 c2_i32_370
  let v585 : BitVec 32 := Scalar.addi c0_i32_371 v584
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_372 : BitVec 32 := 1#32
  let v586 : BitVec 32 := Scalar.muli v5 c1_i32_372
  let v587 : BitVec 32 := Scalar.addi v585 v586
  v587.toNat
def k0_dev29 (d0 : Dev nD) : Nat :=
  let c0_i32_398 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_397 : BitVec 32 := 2#32
  let v629 : BitVec 32 := Scalar.muli v7 c2_i32_397
  let v630 : BitVec 32 := Scalar.addi c0_i32_398 v629
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_399 : BitVec 32 := 1#32
  let v631 : BitVec 32 := Scalar.muli v5 c1_i32_399
  let v632 : BitVec 32 := Scalar.addi v630 v631
  v632.toNat
def k0_dev30 (d0 : Dev nD) : Nat :=
  let c0_i32_425 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_424 : BitVec 32 := 2#32
  let v674 : BitVec 32 := Scalar.muli v7 c2_i32_424
  let v675 : BitVec 32 := Scalar.addi c0_i32_425 v674
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_426 : BitVec 32 := 1#32
  let v676 : BitVec 32 := Scalar.muli v5 c1_i32_426
  let v677 : BitVec 32 := Scalar.addi v675 v676
  v677.toNat
def k0_dev31 (d0 : Dev nD) : Nat :=
  let c0_i32_452 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_451 : BitVec 32 := 2#32
  let v719 : BitVec 32 := Scalar.muli v7 c2_i32_451
  let v720 : BitVec 32 := Scalar.addi c0_i32_452 v719
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_453 : BitVec 32 := 1#32
  let v721 : BitVec 32 := Scalar.muli v5 c1_i32_453
  let v722 : BitVec 32 := Scalar.addi v720 v721
  v722.toNat
def k0_dev32 (d0 : Dev nD) : Nat :=
  let c0_i32_479 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_478 : BitVec 32 := 2#32
  let v764 : BitVec 32 := Scalar.muli v7 c2_i32_478
  let v765 : BitVec 32 := Scalar.addi c0_i32_479 v764
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_480 : BitVec 32 := 1#32
  let v766 : BitVec 32 := Scalar.muli v5 c1_i32_480
  let v767 : BitVec 32 := Scalar.addi v765 v766
  v767.toNat
def k0_dev33 (d0 : Dev nD) : Nat :=
  let c0_i32_506 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_505 : BitVec 32 := 2#32
  let v809 : BitVec 32 := Scalar.muli v7 c2_i32_505
  let v810 : BitVec 32 := Scalar.addi c0_i32_506 v809
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_507 : BitVec 32 := 1#32
  let v811 : BitVec 32 := Scalar.muli v5 c1_i32_507
  let v812 : BitVec 32 := Scalar.addi v810 v811
  v812.toNat
def k0_dev34 (d0 : Dev nD) : Nat :=
  let c0_i32_533 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_532 : BitVec 32 := 2#32
  let v854 : BitVec 32 := Scalar.muli v7 c2_i32_532
  let v855 : BitVec 32 := Scalar.addi c0_i32_533 v854
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_534 : BitVec 32 := 1#32
  let v856 : BitVec 32 := Scalar.muli v5 c1_i32_534
  let v857 : BitVec 32 := Scalar.addi v855 v856
  v857.toNat
def k0_dev35 (d0 : Dev nD) : Nat :=
  let c0_i32_560 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_559 : BitVec 32 := 2#32
  let v899 : BitVec 32 := Scalar.muli v7 c2_i32_559
  let v900 : BitVec 32 := Scalar.addi c0_i32_560 v899
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_561 : BitVec 32 := 1#32
  let v901 : BitVec 32 := Scalar.muli v5 c1_i32_561
  let v902 : BitVec 32 := Scalar.addi v900 v901
  v902.toNat
def k0_off7 (d0 : Dev nD) : Fin 3 → Nat :=
  let c0_574 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c480_i32_573 : BitVec 32 := 480#32
  let v918 : BitVec 32 := Scalar.addi v17 c480_i32_573
  let v919 : Index := Scalar.indexCast v918
  let c0_575 : Index := 0#32
  ![0, v919.toNat, 0]
def k0_off8 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c480_i32_573 : BitVec 32 := 480#32
  let v918 : BitVec 32 := Scalar.addi v17 c480_i32_573
  let v924 : Index := Scalar.indexCast v918
  let c0_577 : Index := 0#32
  ![v924.toNat, 0]
def k0_off9 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c480_i32_573 : BitVec 32 := 480#32
  let v918 : BitVec 32 := Scalar.addi v17 c480_i32_573
  let c0_i32_589 : BitVec 32 := 0#32
  ![v918.toNat, 0]
def k0_dev36 (d0 : Dev nD) : Nat :=
  let c0_i32_587 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_586 : BitVec 32 := 2#32
  let v944 : BitVec 32 := Scalar.muli v7 c2_i32_586
  let v945 : BitVec 32 := Scalar.addi c0_i32_587 v944
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_588 : BitVec 32 := 1#32
  let v946 : BitVec 32 := Scalar.muli v5 c1_i32_588
  let v947 : BitVec 32 := Scalar.addi v945 v946
  v947.toNat
def k0_off10 (d0 : Dev nD) (c496_i32_600 : BitVec 32) : Fin 3 → Nat :=
  let c0_601 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v963 : BitVec 32 := Scalar.addi v17 c496_i32_600
  let v964 : Index := Scalar.indexCast v963
  let c0_602 : Index := 0#32
  ![0, v964.toNat, 0]
def k0_off11 (d0 : Dev nD) (c496_i32_600 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v963 : BitVec 32 := Scalar.addi v17 c496_i32_600
  let v969 : Index := Scalar.indexCast v963
  let c0_604 : Index := 0#32
  ![v969.toNat, 0]
def k0_off12 (d0 : Dev nD) (c496_i32_600 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v963 : BitVec 32 := Scalar.addi v17 c496_i32_600
  let c0_i32_616 : BitVec 32 := 0#32
  ![v963.toNat, 0]
def k0_dev37 (d0 : Dev nD) : Nat :=
  let c0_i32_614 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_613 : BitVec 32 := 2#32
  let v989 : BitVec 32 := Scalar.muli v7 c2_i32_613
  let v990 : BitVec 32 := Scalar.addi c0_i32_614 v989
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_615 : BitVec 32 := 1#32
  let v991 : BitVec 32 := Scalar.muli v5 c1_i32_615
  let v992 : BitVec 32 := Scalar.addi v990 v991
  v992.toNat
def k0_dev38 (d0 : Dev nD) : Nat :=
  let c0_i32_641 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_640 : BitVec 32 := 2#32
  let v1034 : BitVec 32 := Scalar.muli v7 c2_i32_640
  let v1035 : BitVec 32 := Scalar.addi c0_i32_641 v1034
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_642 : BitVec 32 := 1#32
  let v1036 : BitVec 32 := Scalar.muli v5 c1_i32_642
  let v1037 : BitVec 32 := Scalar.addi v1035 v1036
  v1037.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Program.lean ====
/- The kernel's body as three passes over its chunks of rows.

   The printed body names every one of its eighteen chunks in turn. Here each pass is one step with the
   chunk as a parameter, and the body is shown to be those steps in order. -/
module

public import proofs.«01_k».proof.Proof.Gen.KernelIdeal.Skeleton

@[expose] public section

noncomputable section

namespace Cert.KernelIdeal.Chunked

open Idealize.ShloMosaic Idealize.SL.Sem
open Cert.KernelIdeal.Gen

variable {F : FTy → Type} [FloatOps F]

/-! ## The chunks -/

/-- How many chunks a half is cut into. -/
abbrev nC : ℕ := 18

/-- How many rows chunk `k` has. -/
def rows (k : Fin nC) : ℕ := if k.val < 15 then 32 else if k.val = 15 then 16 else 8

/-- The first row of chunk `k`, counted from the start of the half. -/
def start (k : Fin nC) : ℕ := if k.val < 17 then (if k.val < 16 then 32 * k.val else 496) else 504

/-- The chunks in the order the body takes them. -/
def order : List (Fin nC) := [0, 1, 2, 3, 4, 5, 6, 7, 8, 9, 10, 11, 12, 13, 14, 15, 16, 17]

/-- A chunk's rows as a matrix. -/
abbrev Sh (k : Fin nC) : Shape := ⟨2, ![rows k, 1024]⟩
/-- A chunk's rows as a block of the partial sums. -/
abbrev Sh3 (k : Fin nC) : Shape := ⟨3, ![1, rows k, 1024]⟩
/-- One number for each of a chunk's rows. -/
abbrev ShV (k : Fin nC) : Shape := ⟨1, ![rows k]⟩
/-- One number for each of a chunk's rows, as a column. -/
abbrev ShC (k : Fin nC) : Shape := ⟨2, ![rows k, 1]⟩

/-- A chunk's first row as the word the body passes. -/
abbrev startW (k : Fin nC) : BitVec 32 := BitVec.ofNat 32 (start k)

theorem rows_pos : ∀ k : Fin nC, 0 < rows k := by decide
theorem numel_pos (k : Fin nC) : 0 < (Sh k).numel := by revert k; decide +kernel
theorem numel3_pos (k : Fin nC) : 0 < (Sh3 k).numel := by revert k; decide +kernel

theorem offP_inb : ∀ (d : Dev nD) (k : Fin nC), ∀ a, k0_off1 d (startW k) a + (Sh3 k).size a ≤ S1x1024x1024.size a := by decide +kernel
theorem offPl_inb : ∀ (d : Dev nD) (k : Fin nC), ∀ a, k0_off4 d (startW k) a + (Sh3 k).size a ≤ S1x1024x1024.size a := by decide +kernel
theorem offR_inb : ∀ (d : Dev nD) (k : Fin nC), ∀ a, k0_off5 d (startW k) a + (Sh k).size a ≤ S1024x1024.size a := by decide +kernel
theorem offO_inb : ∀ (d : Dev nD) (k : Fin nC), ∀ a, k0_off6 d (startW k) a + (Sh k).size a ≤ S1024x1024.size a := by decide +kernel
theorem offC_inb : ∀ (k : Fin nC), ∀ a, (![start k, 0] : Fin 2 → ℕ) a + (Sh k).size a ≤ S512x1024.size a := by decide +kernel
theorem sem_inb : ∀ (k : Fin nC), ∀ a, (![k.val] : Fin 1 → ℕ) a + S1.size a ≤ S18.size a := by decide +kernel
theorem squeezes3 (k : Fin nC) : (Sh3 k).Squeezes (Sh k) := by revert k; decide +kernel
theorem casts3 (k : Fin nC) : (Sh3 k).ShapeCasts (Sh k) := by revert k; decide +kernel
theorem casts2 (k : Fin nC) : (Sh k).ShapeCasts (Sh k) := by revert k; decide +kernel
theorem castsV (k : Fin nC) : (ShV k).ShapeCasts (ShC k) := by revert k; decide +kernel
theorem reduces (k : Fin nC) : (Sh k).Reduces [1] (ShV k) := by revert k; decide +kernel
theorem spreadsC (k : Fin nC) : (ShC k).Broadcasts (Sh k) := by revert k; decide +kernel
theorem spreadsG (k : Fin nC) : S1x1024.Broadcasts (Sh k) := by revert k; decide +kernel

/-! ## What the steps name -/

section names

variable (p : Memref sig .tc .vmem S1x1024x1024 .f32) (r : Memref sig .tc .vmem S1024x1024 .f32)
  (g : Memref sig .tc .vmem S1x1024 .f32) (o : Memref sig .tc .vmem S1024x1024 .f32)
  (b : Memref sig .tc .vmem S512x1024 .f32) (sa ra sb rb : DmaSems sig S18)

/-- The neighbour along `y`, as the body computes it. -/
abbrev toY (d : Dev nD) : Dev nD := ⟨k0_dev3 d, k0_dev3_lt d⟩
/-- The neighbour along `x`, as the body computes it. -/
abbrev toX (d : Dev nD) : Dev nD := ⟨k0_dev21 d, k0_dev21_lt d⟩

/-- Chunk `k` of the partial sums of the half device `d` works on. -/
abbrev pView (d : Dev nD) (k : Fin nC) : Memref sig .tc .vmem (Sh k) .f32 :=
  (p.slice (Rect.unit (s := S1x1024x1024) (k0_off1 d (startW k)) (Sh3 k).size (offP_inb d k)) (fun _ => rfl)).squeeze (Sh k) (squeezes3 k)
/-- Chunk `k` of the receive buffer. -/
abbrev bView (k : Fin nC) : Memref sig .tc .vmem (Sh k) .f32 :=
  b.slice (Rect.unit (s := S512x1024) ![start k, 0] (Sh k).size (offC_inb k)) (fun _ => rfl)
/-- Chunk `k` of the rows of the result device `d` computes. -/
abbrev oView (d : Dev nD) (k : Fin nC) : Memref sig .tc .vmem (Sh k) .f32 :=
  o.slice (Rect.unit (s := S1024x1024) (k0_off6 d (startW k)) (Sh k).size (offO_inb d k)) (fun _ => rfl)
/-- Semaphore `k` of one of the four arrays. -/
abbrev semAt (s : DmaSems sig S18) (k : Fin nC) : DmaSem sig :=
  ((s.slice (Rect.unit (s := S18) ![k.val] S1.size (sem_inb k))).squeeze S_ squeezes_S1_S_).sem

/-- The rows a chunk's step stores, from the four things it loads: the device's own partial sums,
    its neighbour's, the residual's rows and the scale. -/
def pay (k : Fin nC) (vp : Vec F (Sh3 k) .f32) (vb : Vec F (Sh k) .f32) (vr : Vec F (Sh k) .f32) (vg : Vec F S1x1024 .f32) : FVec F (Sh k) .f32 :=
  have y : FVec F (Sh k) .f32 := addf (addf (shapeCast (Sh k) vp (casts3 k)) vb) (shapeCast (Sh k) vr (casts2 k))
  have s : FVec F (ShC k) .f32 := shapeCast (ShC k) (multiReduction .add [1] (ShV k) (mulf y y) 0x00000000#32 (reduces k) (.inl rfl) rfl) (castsV k)
  have i : FVec F (ShC k) .f32 := rsqrt (addf (mulf s (broadcast (ShC k) (Scalar.ofBits .f32 0x3A800000#32))) (broadcast (ShC k) (Scalar.ofBits .f32 0x358637BD#32)))
  mulf (mulf y (broadcastTo (Sh k) i (spreadsC k))) (broadcastTo (Sh k) (shapeCast S1x1024 vg shapeCasts_S1x1024_S1x1024) (spreadsG k))

/-! ## The steps -/

/-- The kernel's programs. -/
abbrev Pg (α : Type) : Type _ := Prog (TpuEff nD τ sig (Elt F) Λ₀ .tc) α

/-- Send chunk `k` of the partial sums along `y`. -/
def send (d : Dev nD) (k : Fin nC) : Pg (F := F) PUnit :=
  Prog.lift (.enqueueDma (pView p d k) (.remote (Dev.tc (toY d)) (bView b k) (.dma (semAt sa k))) (.dma (semAt ra k))
    ((View.wordExact_bits rfl).reshape _ _) (View.wordExact_bits rfl) ⟨⟨rfl, Or.inl rfl⟩, trivial⟩)

/-- Wait for chunk `k` of the neighbour's partial sums, compute the chunk's rows and send them along `x`. -/
def compute (d : Dev nD) (k : Fin nC) : Pg (F := F) PUnit := do
  Prog.lift (.waitDma2 (semAt ra k) (pView p d k) (bView b k) ((View.wordExact_bits rfl).reshape _ _) (View.wordExact_bits rfl))
  let vp : Vec F (Sh3 k) .f32 ← Prog.lift (.load p (Rect.unit (s := S1x1024x1024) (k0_off4 d (startW k)) (Sh3 k).size (offPl_inb d k)).toLoadRect (View.loadsAt_vmem (numel3_pos k)))
  let vb : Vec F (Sh k) .f32 ← Prog.lift (.load b (Rect.unit (s := S512x1024) ![start k, 0] (Sh k).size (offC_inb k)).toLoadRect (View.loadsAt_vmem (numel_pos k)))
  let vr : Vec F (Sh k) .f32 ← Prog.lift (.load r (Rect.unit (s := S1024x1024) (k0_off5 d (startW k)) (Sh k).size (offR_inb d k)).toLoadRect (View.loadsAt_vmem (numel_pos k)))
  let vg : Vec F S1x1024 .f32 ← Prog.lift (.load g (Rect.unit (s := S1x1024) ![0, 0] S1x1024.size inb_S1x1024_S1x1024_0_0).toLoadRect (View.loadsAt_vmem h_S1x1024))
  let _ : Vec F (Sh k) .f32 ← Prog.lift (.load o (Rect.unit (s := S1024x1024) (k0_off5 d (startW k)) (Sh k).size (offR_inb d k)).toLoadRect (View.loadsAt_vmem (numel_pos k)))
  Prog.lift (.store o (Rect.unit (s := S1024x1024) (k0_off5 d (startW k)) (Sh k).size (offR_inb d k)) (pay k vp vb vr vg) Finset.univ (View.stores_vmem_bits_univ (numel_pos k) rfl) (.inl rfl))
  Prog.lift (.enqueueDma (oView o d k) (.remote (Dev.tc (toX d)) (oView o d k) (.dma (semAt sb k))) (.dma (semAt rb k))
    (View.wordExact_bits rfl) (View.wordExact_bits rfl) ⟨⟨rfl, Or.inl rfl⟩, trivial⟩)

/-- Wait for chunk `k`'s two sends and for the rows that come along `x`. -/
def drain (d : Dev nD) (k : Fin nC) : Pg (F := F) PUnit := do
  Prog.lift (.waitDma2 (semAt sa k) (bView b k) (pView p d k) (View.wordExact_bits rfl) ((View.wordExact_bits rfl).reshape _ _))
  Prog.lift (.waitDma2 (semAt sb k) (oView o d k) (oView o d k) (View.wordExact_bits rfl) (View.wordExact_bits rfl))
  Prog.lift (.waitDma2 (semAt rb k) (oView o d k) (oView o d k) (View.wordExact_bits rfl) (View.wordExact_bits rfl))

/-- A step for every chunk of a list, in its order. -/
def pass (f : Fin nC → Pg (F := F) PUnit) : List (Fin nC) → Pg (F := F) PUnit
  | [] => pure ⟨⟩
  | k :: l => f k >>= fun _ => pass f l

/-- The whole body: the handshake with both neighbours, then the three passes. -/
def body : Pg (F := F) PUnit := do
  let d : Dev nD ← Prog.lift .deviceId
  semSignalWord (toY d) (SemArray.scalar (sig.barrier 0 rfl) : Sems sig S_).sem 1#32
  semSignalWord (toX d) (SemArray.scalar (sig.barrier 0 rfl) : Sems sig S_).sem 1#32
  semWaitWord (SemArray.scalar (sig.barrier 0 rfl) : Sems sig S_).sem 2#32
  pass (send p b sa ra d) order
  pass (compute p r g o b ra sb rb d) order
  pass (drain p o b sa sb rb d) order

end names

set_option maxRecDepth 65536 in
set_option maxHeartbeats 0 in
/-- The printed body is the three passes. -/
theorem body_eq (p : Memref sig .tc .vmem S1x1024x1024 .f32) (hp : p.IsWhole) (r : Memref sig .tc .vmem S1024x1024 .f32) (hr : r.IsWhole)
    (g : Memref sig .tc .vmem S1x1024 .f32) (hg : g.IsWhole) (o : Memref sig .tc .vmem S1024x1024 .f32) (ho : o.IsWhole)
    (b : Memref sig .tc .vmem S512x1024 .f32) (hb : b.IsWhole) (sa ra sb rb : DmaSems sig S18) :
    cc0_body_skel (F := F) p hp r hr g hg o ho b hb sa ra sb rb = body p r g o b sa ra sb rb := rfl

end Cert.KernelIdeal.Chunked
-- ==== Proof.Chunks.lean ====
/- Where the chunks lie.

   Which rows of its buffer each chunk covers, that the chunks are pairwise disjoint and cover the half,
   and which device is whose neighbour. -/
module

public import proofs.«01_k».proof.Proof.Program
public import Idealize.ShloMosaic.Lib.Pipeline.ValueKit.Geometry
public import Idealize.ShloMosaic.Lib.Pipeline.Value
public import Idealize.ShloMosaic.Lib.ValueIdxCore
public import Idealize.ShloMosaic.Lib.ViewIndex

@[expose] public section

noncomputable section

namespace Cert.KernelIdeal.Chunked

open Idealize.ShloMosaic Idealize.ShloMosaic.ValueIdx Idealize.SL.Sem
open Cert.KernelIdeal.Gen

variable {F : FTy → Type} [FloatOps F]

/-! ## Neighbours -/

theorem dev_lt (d : Dev nD) : d.val < 4 := d.isLt

/-- Which half of the rows device `d` works on, as a row number. -/
abbrev base (d : Dev nD) : ℕ := 512 * (d.val / 2)

theorem toY_toY : ∀ d : Dev nD, toY (toY d) = d := by decide +kernel
theorem toX_toX : ∀ d : Dev nD, toX (toX d) = d := by decide +kernel
theorem toY_ne : ∀ d : Dev nD, toY d ≠ d := by decide +kernel
theorem toX_ne : ∀ d : Dev nD, toX d ≠ d := by decide +kernel
theorem toX_ne_toY : ∀ d : Dev nD, toX d ≠ toY d := by decide +kernel
/-- The neighbour along `y` works on the same half. -/
theorem toY_half : ∀ d : Dev nD, (toY d).val / 2 = d.val / 2 := by decide +kernel
/-- The neighbour along `x` works on the other half. -/
theorem toX_half : ∀ d : Dev nD, (toX d).val / 2 = 1 - d.val / 2 := by decide +kernel
theorem toX_col : ∀ d : Dev nD, (toX d).val % 2 = d.val % 2 := by decide +kernel
theorem toY_col : ∀ d : Dev nD, (toY d).val % 2 = 1 - d.val % 2 := by decide +kernel
/-- The signal's target along `y` is the copy's. -/
theorem dev1_eq : ∀ d : Dev nD, (⟨k0_dev1 d, k0_dev1_lt d⟩ : Dev nD) = toY d := by decide +kernel
theorem dev2_eq : ∀ d : Dev nD, (⟨k0_dev2 d, k0_dev2_lt d⟩ : Dev nD) = toX d := by decide +kernel

/-- Following the neighbour along `y`, as a permutation of the devices. -/
def swapY : Dev nD ≃ Dev nD := ⟨toY, toY, toY_toY, toY_toY⟩
/-- Following the neighbour along `x`, as a permutation of the devices. -/
def swapX : Dev nD ≃ Dev nD := ⟨toX, toX, toX_toX, toX_toX⟩

/-! ## Offsets in closed form -/

theorem offP_eq : ∀ (d : Dev nD) (k : Fin nC), k0_off1 d (startW k) = ![0, base d + start k, 0] := by decide +kernel
theorem offPl_eq : ∀ (d : Dev nD) (k : Fin nC), k0_off4 d (startW k) = ![0, base d + start k, 0] := by decide +kernel
theorem offR_eq : ∀ (d : Dev nD) (k : Fin nC), k0_off5 d (startW k) = ![base d + start k, 0] := by decide +kernel
theorem offO_eq : ∀ (d : Dev nD) (k : Fin nC), k0_off6 d (startW k) = ![base d + start k, 0] := by decide +kernel

/-! ## The chunk of a row -/

/-- The chunk that row `r` of a half lies in. -/
def chunkOf (r : ℕ) : Fin nC := if h : r < 480 then ⟨r / 32, by show r / 32 < 18; omega⟩ else if r < 496 then 15 else if r < 504 then 16 else 17

theorem start_add_rows : ∀ k : Fin nC, start k + rows k ≤ 512 := by decide

theorem chunkOf_of (k : Fin nC) (r : ℕ) (h₁ : start k ≤ r) (h₂ : r < start k + rows k) : chunkOf r = k := by
  have key : ∀ (k : Fin nC) (r : Fin 512), start k ≤ r.val → r.val < start k + rows k → chunkOf r.val = k := by decide +kernel
  exact key k ⟨r, lt_of_lt_of_le h₂ (start_add_rows k)⟩ h₁ h₂

theorem chunkOf_spec (r : ℕ) (h : r < 512) : start (chunkOf r) ≤ r ∧ r < start (chunkOf r) + rows (chunkOf r) := by
  have key : ∀ r : Fin 512, start (chunkOf r.val) ≤ r.val ∧ r.val < start (chunkOf r.val) + rows (chunkOf r.val) := by decide +kernel
  exact key ⟨r, h⟩

/-! ## The buffers -/

/-- The staged partial sums. -/
abbrev pM : Memref sig .tc .vmem S1x1024x1024 .f32 := Memref.whole cc0_stg0_0
/-- The staged residual. -/
abbrev rM : Memref sig .tc .vmem S1024x1024 .f32 := Memref.whole cc0_stg1_0
/-- The staged scale. -/
abbrev gM : Memref sig .tc .vmem S1x1024 .f32 := Memref.whole cc0_stg2_0
/-- The staged result. -/
abbrev oM : Memref sig .tc .vmem S1024x1024 .f32 := Memref.whole cc0_stg3_0
/-- The receive buffer. -/
abbrev bM : Memref sig .tc .vmem S512x1024 .f32 := Memref.whole cc0_scratch0

/-- The elements of the staged partial sums that chunk `k` of device `d`'s half covers. -/
abbrev pSet (d : Dev nD) (k : Fin nC) : Finset (S1x1024x1024).Idx := (pView pM d k).view.set
/-- The elements of the receive buffer that chunk `k` covers. -/
abbrev bSet (k : Fin nC) : Finset (S512x1024).Idx := (bView bM k).view.set
/-- The elements of the staged result that chunk `k` of device `d`'s half covers. -/
abbrev oSet (d : Dev nD) (k : Fin nC) : Finset (S1024x1024).Idx := (oView oM d k).view.set

theorem emb_o (d : Dev nD) (k : Fin nC) (x : (Sh k).Idx) :
    (oView oM d k).view.emb x = ix2 (n0 := 1024) (n1 := 1024) ⟨base d + start k + (x 0).val, by
      have := start_add_rows k; have h0 : (x 0).val < rows k := (x 0).isLt; have := dev_lt d; show 512 * (d.val / 2) + _ + _ < _; omega⟩ ⟨(x 1).val, (x 1).isLt⟩ := by
  funext a
  apply Fin.ext
  refine (ValueKit.view_emb_slice_whole_unit_val cc0_stg3_0 (k0_off6 d (startW k)) (Sh k).size (offO_inb d k) x a).trans ((congrArg (· + (x a).val) (congrFun (offO_eq d k) a)).trans ?_)
  match a with
  | ⟨0, _⟩ => rfl
  | ⟨1, _⟩ => exact Nat.zero_add _

theorem emb_b (k : Fin nC) (x : (Sh k).Idx) :
    (bView bM k).view.emb x = ix2 (n0 := 512) (n1 := 1024) ⟨start k + (x 0).val, by
      have := start_add_rows k; have h0 : (x 0).val < rows k := (x 0).isLt; omega⟩ ⟨(x 1).val, (x 1).isLt⟩ := by
  funext a
  apply Fin.ext
  refine (ValueKit.view_emb_slice_whole_unit_val cc0_scratch0 ![start k, 0] (Sh k).size (offC_inb k) x a).trans ?_
  match a with
  | ⟨0, _⟩ => rfl
  | ⟨1, _⟩ => exact Nat.zero_add _

theorem mem_oSet (d : Dev nD) (k : Fin nC) (i : (S1024x1024).Idx) :
    i ∈ oSet d k ↔ base d + start k ≤ (i 0).val ∧ (i 0).val < base d + start k + rows k := by
  refine ValueKit.mem_set_slice_whole_iff cc0_stg3_0 _ i ?_
  rw [Rect.mem_set_unit]
  refine Fin.forall_fin_two.trans ?_
  rw [show k0_off6 d (startW k) 0 = base d + start k from congrFun (offO_eq d k) 0, show k0_off6 d (startW k) 1 = 0 from congrFun (offO_eq d k) 1]
  exact and_iff_left ⟨Nat.zero_le _, lt_of_lt_of_eq (i 1).isLt (Nat.zero_add _).symm⟩

theorem mem_bSet (k : Fin nC) (i : (S512x1024).Idx) :
    i ∈ bSet k ↔ start k ≤ (i 0).val ∧ (i 0).val < start k + rows k := by
  refine ValueKit.mem_set_slice_whole_iff cc0_scratch0 _ i ?_
  rw [Rect.mem_set_unit]
  refine Fin.forall_fin_two.trans ?_
  exact and_iff_left ⟨Nat.zero_le _, lt_of_lt_of_eq (i 1).isLt (Nat.zero_add _).symm⟩

theorem pSet_eq (d : Dev nD) (k : Fin nC) : pSet d k = (Rect.unit (s := S1x1024x1024) (k0_off1 d (startW k)) (Sh3 k).size (offP_inb d k)).set :=
  (Memref.set_view_squeeze _ _).trans (View.set_slice_whole _ _)

/-- An element of the partial sums lies in a chunk only if its row does. -/
theorem row_of_pSet (d : Dev nD) (k : Fin nC) (i : (S1x1024x1024).Idx) (h : i ∈ pSet d k) :
    base d + start k ≤ (i 1).val ∧ (i 1).val < base d + start k + rows k := by
  rw [pSet_eq, Rect.mem_set_unit] at h
  have h1 := h 1
  rw [offP_eq] at h1
  exact h1

/-! ## Disjointness and cover -/

theorem pSet_disj (d : Dev nD) {k k' : Fin nC} (h : k ≠ k') : Disjoint (pSet d k) (pSet d k') := by
  rw [Finset.disjoint_left]
  intro i hi hi'
  obtain ⟨a, b⟩ := row_of_pSet d k i hi
  obtain ⟨a', b'⟩ := row_of_pSet d k' i hi'
  exact h ((chunkOf_of k ((i 1).val - base d) (by omega) (by omega)).symm.trans (chunkOf_of k' _ (by omega) (by omega)))

theorem bSet_disj {k k' : Fin nC} (h : k ≠ k') : Disjoint (bSet k) (bSet k') := by
  rw [Finset.disjoint_left]
  intro i hi hi'
  obtain ⟨a, b⟩ := (mem_bSet k i).1 hi
  obtain ⟨a', b'⟩ := (mem_bSet k' i).1 hi'
  exact h ((chunkOf_of k _ a b).symm.trans (chunkOf_of k' _ a' b'))

/-- The chunks fill the receive buffer. -/
theorem bSet_cover : Finset.univ.biUnion bSet = (Finset.univ : Finset (S512x1024).Idx) := by
  ext i
  simp only [Finset.mem_biUnion, Finset.mem_univ, true_and, iff_true]
  have h : (i 0).val < 512 := (i 0).isLt
  exact ⟨chunkOf (i 0).val, (mem_bSet _ i).2 (chunkOf_spec _ h)⟩

/-- The elements of the staged result in device `d`'s half. -/
def oHalf (d : Dev nD) : Finset (S1024x1024).Idx := Finset.univ.biUnion (oSet d)

theorem mem_oHalf (d : Dev nD) (i : (S1024x1024).Idx) : i ∈ oHalf d ↔ (i 0).val / 512 = d.val / 2 := by
  unfold oHalf
  simp only [Finset.mem_biUnion, Finset.mem_univ, true_and]
  constructor
  · rintro ⟨k, hk⟩
    obtain ⟨a, b⟩ := (mem_oSet d k i).1 hk
    have := start_add_rows k
    have hb : base d = 512 * (d.val / 2) := rfl
    omega
  · intro h
    have hb : base d = 512 * (d.val / 2) := rfl
    obtain ⟨a, b⟩ := chunkOf_spec ((i 0).val % 512) (Nat.mod_lt _ (by decide))
    exact ⟨chunkOf ((i 0).val % 512), (mem_oSet d _ i).2 ⟨by omega, by omega⟩⟩

theorem oSet_disj (d : Dev nD) {k k' : Fin nC} (h : k ≠ k') : Disjoint (oSet d k) (oSet d k') := by
  rw [Finset.disjoint_left]
  intro i hi hi'
  obtain ⟨a, b⟩ := (mem_oSet d k i).1 hi
  obtain ⟨a', b'⟩ := (mem_oSet d k' i).1 hi'
  exact h ((chunkOf_of k ((i 0).val - base d) (by omega) (by omega)).symm.trans (chunkOf_of k' _ (by omega) (by omega)))

/-- The other half is the neighbour's along `x`. -/
theorem oHalf_compl (d : Dev nD) : (Finset.univ : Finset (S1024x1024).Idx) \ oHalf d = oHalf (toX d) := by
  ext i
  rw [Finset.mem_sdiff, mem_oHalf, mem_oHalf, toX_half]
  have h : (i 0).val < 1024 := (i 0).isLt
  have h' : d.val < 4 := d.isLt
  simp only [Finset.mem_univ, true_and]
  omega

end Cert.KernelIdeal.Chunked
-- ==== Proof.Contents.lean ====
/- What the buffers hold.

   A buffer that the copies fill piece by piece is described by one function on the whole of it, so that
   a piece is spoken of without naming the others. -/
module

public import proofs.«01_k».proof.Proof.Chunks

@[expose] public section

noncomputable section

namespace Cert.KernelIdeal.Chunked

open Idealize.ShloMosaic Idealize.ShloMosaic.ValueIdx Idealize.SL.Sem
open Cert.KernelIdeal.Gen

variable {F : FTy → Type} [FloatOps F]

/-- What every device finds staged when the body starts. -/
structure Inp (F : FTy → Type) where
  /-- The partial sums. -/
  p : Dev nD → cc0_stg0_0.ty.Contents (Elt F)
  /-- The residual. -/
  r : Dev nD → cc0_stg1_0.ty.Contents (Elt F)
  /-- The scale. -/
  g : Dev nD → cc0_stg2_0.ty.Contents (Elt F)

/-- The rectangles a chunk's step loads and stores through. -/
abbrev rectP (d : Dev nD) (k : Fin nC) : Rect S1x1024x1024 := Rect.unit (s := S1x1024x1024) (k0_off4 d (startW k)) (Sh3 k).size (offPl_inb d k)
abbrev rectB (k : Fin nC) : Rect S512x1024 := Rect.unit (s := S512x1024) ![start k, 0] (Sh k).size (offC_inb k)
abbrev rectR (d : Dev nD) (k : Fin nC) : Rect S1024x1024 := Rect.unit (s := S1024x1024) (k0_off5 d (startW k)) (Sh k).size (offR_inb d k)
abbrev rectG : Rect S1x1024 := Rect.unit (s := S1x1024) ![0, 0] S1x1024.size inb_S1x1024_S1x1024_0_0

/-- From a value for each chunk, the value at row `r` of a half and column `j`. -/
def pick {α : Type} (v : ∀ k : Fin nC, (Sh k).Idx → α) (r : ℕ) (j : Fin 1024) : α :=
  (fun k : Fin nC => v k (ix2 ⟨(r - start k) % rows k, Nat.mod_lt _ (rows_pos k)⟩ j)) (chunkOf r)

/-- At a row of chunk `k` the value is chunk `k`'s. -/
theorem pick_of {α : Type} (v : ∀ k : Fin nC, (Sh k).Idx → α) (k : Fin nC) (a : Fin (rows k)) (j : Fin 1024) (r : ℕ) (hr : r = start k + a.val) :
    pick v r j = v k (ix2 a j) := by
  unfold pick
  rw [chunkOf_of k r (by omega) (by omega)]
  have : (⟨(r - start k) % rows k, Nat.mod_lt _ (rows_pos k)⟩ : Fin (rows k)) = a := by
    apply Fin.ext
    show (r - start k) % rows k = a.val
    rw [hr, Nat.add_sub_cancel_left, Nat.mod_eq_of_lt a.isLt]
  show v k (ix2 _ j) = _
  rw [this]

variable (I : Inp F)

/-- Device `d`'s partial sums on chunk `k` of its half. -/
def part (d : Dev nD) (k : Fin nC) : (Sh k).Idx → F .f32 := (pView pM d k).view.read (Elt F) (I.p d)

/-- The rows of the result that device `d` computes for chunk `k`. -/
def chunkVal (d : Dev nD) (k : Fin nC) : (Sh k).Idx → F .f32 :=
  pay k ((pM.access (rectP d k)).read (Elt F) (I.p d)) (part I (toY d) k)
    ((rM.access (rectR d k)).read (Elt F) (I.r d)) ((gM.access rectG).read (Elt F) (I.g d))

/-- The receive buffer of device `c` once its neighbour along `y` has sent everything. -/
def landC (c : Dev nD) : cc0_scratch0.ty.Contents (Elt F) :=
  fun i : S512x1024.Idx => pick (part I (toY c)) (i 0).val (i 1)

/-- The device of column `c`'s pair that works on row `r`. -/
def rowDev (c : Dev nD) (r : ℕ) (hr : r < 1024) : Dev nD := ⟨2 * (r / 512) + c.val % 2, by show _ < 4; omega⟩

/-- The staged result of device `c` once both halves are there. -/
def outV (c : Dev nD) : cc0_stg3_0.ty.Contents (Elt F) :=
  fun i : S1024x1024.Idx => pick (chunkVal I (rowDev c (i 0).val (i 0).isLt)) ((i 0).val % 512) (i 1)

/-- The two devices of a pair along `x` end with the same result. -/
theorem outV_toX (c : Dev nD) : outV I (toX c) = outV I c := by
  have h : ∀ r hr, rowDev (toX c) r hr = rowDev c r hr := fun r hr => Fin.ext (by
    show 2 * (r / 512) + (toX c).val % 2 = 2 * (r / 512) + c.val % 2; rw [toX_col])
  funext i
  exact congrArg (fun D => pick (chunkVal I D) ((i 0).val % 512) (i 1)) (h (i 0).val (i 0).isLt)

theorem landC_emb (c : Dev nD) (k : Fin nC) (x : (Sh k).Idx) : landC I c ((bView bM k).view.emb x) = part I (toY c) k x := by
  rw [emb_b]
  exact (pick_of (part I (toY c)) k (x 0) (x 1) _ rfl).trans (congrArg (part I (toY c) k) (eq_ix2 x).symm)

theorem outV_emb (c d : Dev nD) (h : d.val % 2 = c.val % 2) (k : Fin nC) (x : (Sh k).Idx) :
    outV I c ((oView oM d k).view.emb x) = chunkVal I d k x := by
  rw [emb_o]
  have h0 : (x 0).val < rows k := (x 0).isLt
  have hs := start_add_rows k
  have hd : rowDev c (base d + start k + (x 0).val) (by have := dev_lt d; show 512 * (d.val / 2) + _ + _ < _; omega) = d := Fin.ext (by
    show 2 * ((512 * (d.val / 2) + start k + (x 0).val) / 512) + c.val % 2 = d.val
    omega)
  show pick (chunkVal I (rowDev c (base d + start k + (x 0).val) _)) ((base d + start k + (x 0).val) % 512) _ = _
  rw [hd]
  refine (pick_of (chunkVal I d) k (x 0) (x 1) _ (by show (512 * (d.val / 2) + start k + (x 0).val) % 512 = start k + (x 0).val; omega)).trans
    (congrArg (chunkVal I d k) (eq_ix2 x).symm)

/-- A chunk of partial sums that has landed is what the receive buffer is to hold there. -/
theorem landed_b (c : Dev nD) (k : Fin nC) (fd : cc0_scratch0.ty.Contents (Elt F)) (i : S512x1024.Idx) (hi : i ∈ bSet k) :
    (bView bM k).view.write (Elt F) fd ((pView pM c k).view.read (Elt F) (I.p c)) Finset.univ i = landC I (toY c) i := by
  obtain ⟨x, -, rfl⟩ := Finset.mem_map.1 hi
  refine (View.write_emb_of_mem _ _ (Finset.mem_univ x)).trans ?_
  refine Eq.trans ?_ (landC_emb I (toY c) k x).symm
  rw [toY_toY]; rfl

/-- A chunk's rows as stored are what the staged result is to hold there. -/
theorem stored_o (c : Dev nD) (k : Fin nC) (f : cc0_stg3_0.ty.Contents (Elt F)) (i : S1024x1024.Idx) (hi : i ∈ oSet c k) :
    (oView oM c k).view.write (Elt F) f (chunkVal I c k) Finset.univ i = outV I c i := by
  obtain ⟨x, -, rfl⟩ := Finset.mem_map.1 hi
  exact (View.write_emb_of_mem _ _ (Finset.mem_univ x)).trans (outV_emb I c c rfl k x).symm

/-- A chunk's rows that have landed along `x` are what the staged result is to hold there. -/
theorem landed_o (c : Dev nD) (k : Fin nC) (fd : cc0_stg3_0.ty.Contents (Elt F)) (i : S1024x1024.Idx) (hi : i ∈ oSet c k) :
    (oView oM c k).view.write (Elt F) fd ((oView oM c k).view.read (Elt F) (outV I c)) Finset.univ i = outV I (toX c) i := by
  obtain ⟨x, -, rfl⟩ := Finset.mem_map.1 hi
  refine (View.write_emb_of_mem _ _ (Finset.mem_univ x)).trans ?_
  rw [outV_toX]; rfl

/-- Loading a chunk of the receive buffer gives the neighbour's partial sums. -/
theorem read_b (c : Dev nD) (k : Fin nC) : (bM.access (rectB k)).read (Elt F) (landC I c) = part I (toY c) k :=
  funext fun x => landC_emb I c k x

/-- The store goes through the same rows as the copy that follows it. -/
theorem set_o (c : Dev nD) (k : Fin nC) : (oM.access (rectR c k)).set = oSet c k := by
  have h : ∀ (off off' : Fin 2 → ℕ) (e : off = off') (i₁ : ∀ a, off a + (Sh k).size a ≤ S1024x1024.size a) (i₂ : ∀ a, off' a + (Sh k).size a ≤ S1024x1024.size a),
      (oM.access (Rect.unit (s := S1024x1024) off (Sh k).size i₁)).set = (oM.access (Rect.unit (s := S1024x1024) off' (Sh k).size i₂)).set := by
    rintro off _ rfl i₁ i₂; rfl
  exact h _ _ ((offR_eq c k).trans (offO_eq c k).symm) _ _

/-- It writes what a copy of the same values would write. -/
theorem write_o (c : Dev nD) (k : Fin nC) (f : cc0_stg3_0.ty.Contents (Elt F)) (v : (Sh k).Idx → F .f32) :
    (oM.access (rectR c k)).write (Elt F) f v Finset.univ = (oView oM c k).view.write (Elt F) f v Finset.univ := by
  have h : ∀ (off off' : Fin 2 → ℕ) (e : off = off') (i₁ : ∀ a, off a + (Sh k).size a ≤ S1024x1024.size a) (i₂ : ∀ a, off' a + (Sh k).size a ≤ S1024x1024.size a),
      (oM.access (Rect.unit (s := S1024x1024) off (Sh k).size i₁)).write (Elt F) f v Finset.univ
        = (oM.access (Rect.unit (s := S1024x1024) off' (Sh k).size i₂)).write (Elt F) f v Finset.univ := by
    rintro off _ rfl i₁ i₂; rfl
  exact h _ _ ((offR_eq c k).trans (offO_eq c k).symm) _ _

end Cert.KernelIdeal.Chunked
-- ==== Proof.Protocol.lean ====
/- How the devices speak to one another.

   Every semaphore that the body waits on is a cell with one round. A cell's payload says what the waiter
   may use once the wait is over, with what it holds. -/
module

public import proofs.«01_k».proof.Proof.Contents
public import Idealize.ShloMosaic.Lib.Rounds
public import Idealize.ShloMosaic.Lib.StableHlo
public import Idealize.ShloMosaic.Lib.Tactic
public import Idealize.ShloMosaic.Lib.Pipeline.Regions
public import Idealize.ShloMosaic.Lib.Pipeline.Kit
public import Idealize.ShloMosaic.Lib.Pipeline.BigSepL

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The resources: those of the staging copies, and those of the exchange with duties named by `Bool`. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## The cells -/

/-- The semaphore of the handshake. -/
abbrev barS : SemLoc sig := .reg barrier0

/-- The four arrays of copy semaphores: send and receive along `y`, send and receive along `x`. -/
def arr : Fin 4 → DmaSems sig S18
  | 0 => cc0_scratch1 | 1 => cc0_scratch2 | 2 => cc0_scratch3 | 3 => cc0_scratch4

/-- The kernel's own copy semaphores. -/
abbrev osem (jk : Fin 4 × Fin nC) : SemLoc sig := .dma (semAt (arr jk.1) jk.2)

/-- Which array and chunk a semaphore belongs to. -/
def kind : SemLoc sig → Option (Fin 4 × Fin nC)
  | .dma s => if 4 ≤ s.val then some (Fin.ofNat 4 ((s.val - 4) / 18), Fin.ofNat nC ((s.val - 4) % 18)) else none
  | .reg _ => none

theorem kind_osem : ∀ jk, kind (osem jk) = some jk := by decide +kernel
theorem kind_bar : kind barS = none := rfl
theorem osem_inj : Function.Injective osem := fun a b h => Option.some.inj ((kind_osem a).symm.trans ((congrArg kind h).trans (kind_osem b)))
theorem osem_ne_bar (jk : Fin 4 × Fin nC) : osem jk ≠ barS := fun h => by cases h

abbrev barCell (c : Dev nD) : GSem nD τ sig := ((c : Thread nD τ), barS)
abbrev cell (j : Fin 4) (k : Fin nC) (c : Dev nD) : GSem nD τ sig := ((c : Thread nD τ), osem (j, k))

/-- How much a chunk's copy credits a semaphore. -/
def N (k : Fin nC) : ℕ := (bView bM k).view.dmaCredit
theorem N_pos (k : Fin nC) : 0 < N k := View.dmaCredit_pos _ (numel_pos k)
theorem credit_b (k : Fin nC) : (bView bM k).view.dmaCredit = N k := rfl
theorem credit_o (d : Dev nD) (k : Fin nC) : (oView oM d k).view.dmaCredit = N k := rfl
theorem credit_p (d : Dev nD) (k : Fin nC) : (pView pM d k).view.dmaCredit = N k := rfl

/-! ## What is held of the buffers -/

variable (I : Inp F)

/-- The share of the staged partial sums that the copies take. -/
abbrev qSend : PosShare TreeShare := fullShare.right
/-- The share of the staged partial sums that the loads keep. -/
abbrev qLoad : PosShare TreeShare := fullShare.left

abbrev pAll (c : Dev nD) (q : PosShare TreeShare) : sProp 𝕄 := (pM : Memref sig .tc .vmem S1x1024x1024 .f32).view.loc (c : Thread nD τ) ↦{q} I.p c
abbrev pPts (c : Dev nD) (k : Fin nC) : sProp 𝕄 := (pView pM c k).view.loc (c : Thread nD τ) ↦[(pView pM c k).view.set]{qSend} I.p c
abbrev bPts (c : Dev nD) (k : Fin nC) (f : cc0_scratch0.ty.Contents (Elt F)) : sProp 𝕄 :=
  (bView bM k).view.loc (c : Thread nD τ) ↦[(bView bM k).view.set]{fullShare} f
abbrev oPts (c d : Dev nD) (k : Fin nC) (f : cc0_stg3_0.ty.Contents (Elt F)) : sProp 𝕄 :=
  (oView oM d k).view.loc (c : Thread nD τ) ↦[(oView oM d k).view.set]{fullShare} f

/-! ## The schedule -/

/-- The neighbour along `y` hands over its receive buffer and says that its receive cells are open. -/
def barPayY (c : Dev nD) : sProp 𝕄 :=
  iprop((∃ f : cc0_scratch0.ty.Contents (Elt F), (bM : Memref sig .tc .vmem S512x1024 .f32).view.loc (toY c : Thread nD τ) ↦{fullShare} f)
    ∗ bigSep Finset.univ fun k : Fin nC => reached ER (cell 1 k (toY c)) 0)
/-- The neighbour along `x` hands over the half of its staged result that this device computes. -/
def barPayX (c : Dev nD) : sProp 𝕄 :=
  iprop((∃ f : cc0_stg3_0.ty.Contents (Elt F), (oM : Memref sig .tc .vmem S1024x1024 .f32).view.loc (toX c : Thread nD τ) ↦[oHalf c]{fullShare} f)
    ∗ bigSep Finset.univ fun k : Fin nC => reached ER (cell 3 k (toX c)) 0)
/-- A copy's payload: the chunk sent comes back, the chunk received is there. -/
def chunkPay (c : Dev nD) (k : Fin nC) : Fin 4 → sProp 𝕄
  | 0 => pPts I c k
  | 1 => bPts c k (landC I c)
  | 2 => oPts c c k (outV I c)
  | 3 => oPts c (toX c) k (outV I c)

/-- What a cell pays for its duty `d`. -/
def pay' (g : GSem nD τ sig) (d : Bool) : sProp 𝕄 :=
  match kind g.2 with
  | some jk => chunkPay I g.1.1 jk.2 jk.1
  | none => if g.2 = barS then (match d with | false => barPayY g.1.1 | true => barPayX g.1.1) else iprop(emp)

/-- One round: two duties on the handshake, one on every copy semaphore. -/
def sched : Rounds.Schedule (GSem nD τ sig) Bool 𝕄 where
  duties g r := if r = 0 ∧ g.1.2 = .tc then (if g.2 = barS then Finset.univ else if (kind g.2).isSome then {false} else ∅) else ∅
  unitless _ := False
  amount g _ _ := match kind g.2 with | some jk => N jk.2 | none => 1
  payload g _ d := pay' I g d
  amount_pos g _ _ _ := by
    cases h : kind g.2 with
    | some jk => exact N_pos jk.2
    | none => exact Nat.one_pos

instance sched_storable (g : GSem nD τ sig) (r : ℕ) (d : Bool) : BI.Storable (upEmb : UEmb _ 𝕄) ((sched I).payload g r d) := by
  show BI.Storable upEmb (pay' I g d)
  unfold pay'
  split
  · next jk _ =>
    rcases jk with ⟨j, k⟩
    fin_cases j <;> (show BI.Storable upEmb (chunkPay I g.1.1 k _); unfold chunkPay; infer_instance)
  · split
    · cases d
      · show BI.Storable upEmb (barPayY g.1.1); unfold barPayY; infer_instance
      · show BI.Storable upEmb (barPayX g.1.1); unfold barPayX; infer_instance
    · infer_instance

section Sched

variable (c : Dev nD) (j : Fin 4) (k : Fin nC)

theorem duties_bar : (sched I).duties (barCell c) 0 = Finset.univ := by
  dsimp only [sched]; rw [if_pos ⟨rfl, rfl⟩, if_pos rfl]
theorem duties_cell : (sched I).duties (cell j k c) 0 = {false} := by
  dsimp only [sched]; rw [if_pos ⟨rfl, rfl⟩, if_neg (osem_ne_bar _), kind_osem]; rfl
theorem duties_later (g : GSem nD τ sig) : ∀ r, 1 ≤ r → (sched I).duties g r = ∅ :=
  fun r hr => by dsimp only [sched]; rw [if_neg (fun h => by omega)]
theorem mem_cell : false ∈ (sched I).duties (cell j k c) 0 := by rw [duties_cell]; exact Finset.mem_singleton_self _
theorem mem_bar (d : Bool) : d ∈ (sched I).duties (barCell c) 0 := by rw [duties_bar]; exact Finset.mem_univ _

theorem amount_bar (d : Bool) : (sched I).amount (barCell c) 0 d = 1 := rfl
theorem amount_cell (d : Bool) : (sched I).amount (cell j k c) 0 d = N k := by
  dsimp only [sched]; rw [kind_osem]
theorem expect_bar : (sched I).expect (barCell c) 0 = 2 := by
  unfold Schedule.expect Schedule.amountOf; rw [duties_bar]; rfl
theorem expect_cell : (sched I).expect (cell j k c) 0 = N k := by
  unfold Schedule.expect Schedule.amountOf; rw [duties_cell, Finset.sum_singleton, amount_cell]

theorem payload_cell (d : Bool) : (sched I).payload (cell j k c) 0 d = chunkPay I c k j := by
  show pay' I (cell j k c) d = _
  unfold pay'; rw [kind_osem]
theorem payload_barY : (sched I).payload (barCell c) 0 false = barPayY c := rfl
theorem payload_barX : (sched I).payload (barCell c) 0 true = barPayX c := rfl

theorem rest_cell : bigSep ((sched I).duties (cell j k c) 0 \ ∅) (fun d => (sched I).payload (cell j k c) 0 d) = chunkPay I c k j := by
  rw [Finset.sdiff_empty, duties_cell, bigSep_singleton, payload_cell]
theorem rest_bar : bigSep ((sched I).duties (barCell c) 0 \ ∅) (fun d => (sched I).payload (barCell c) 0 d) = iprop(barPayY (F := F) c ∗ barPayX c) := by
  rw [Finset.sdiff_empty, duties_bar, show (Finset.univ : Finset Bool) = {false, true} from by decide, bigSep_insert (by decide), bigSep_singleton]
  rfl

end Sched

/-! ## What is owed, and in which order the cells are waited on -/

/-- The credits of a list of chunks, at array `j` of device `d`. -/
def tal (j : Fin 4) (d : Dev nD) : List (Fin nC) → CellTallies nD τ sig Unit
  | [] => 0
  | k :: l => tal j d l + tallyAt (cell j k d) () (N k)

theorem tal_cons (j : Fin 4) (d : Dev nD) (k : Fin nC) (l : List (Fin nC)) : tal j d (k :: l) = tal j d l + tallyAt (cell j k d) () (N k) := rfl

/-- What a device owes at first: its copies along `y` and `x`, and a unit to each neighbour's handshake. -/
def owed₀ (c : Dev nD) : CellTallies nD τ sig Unit :=
  tal 1 (toY c) order + tal 3 (toX c) order + tallyAt (barCell (toX c)) () 1 + tallyAt (barCell (toY c)) () 1

theorem tal_pos {j : Fin 4} {d : Dev nD} {l : List (Fin nC)} {g : GSem nD τ sig} {u : Unit} (h : 0 < tal j d l g u) :
    ∃ k ∈ l, g = cell j k d := by
  induction l with
  | nil => exact absurd h (Nat.lt_irrefl 0)
  | cons k l ih =>
    unfold tal at h
    rw [Pi.add_apply, Finsupp.add_apply] at h
    rcases Nat.add_pos_iff_pos_or_pos.mp h with h | h
    · obtain ⟨k', hk, e⟩ := ih h
      exact ⟨k', List.mem_cons_of_mem _ hk, e⟩
    · rw [tallyAt_apply] at h
      split at h
      · next hg => exact ⟨k, List.mem_cons_self, hg.1⟩
      · exact absurd h (Nat.lt_irrefl 0)

def L (g : GSem nD τ sig) : Finset Unit := if g.1.2 = .tc then {()} else ∅
/-- The handshake is waited on first, then the copies along `y`, then those along `x`. -/
def lv (g : GSem nD τ sig) (_ : Unit) : ℕ :=
  match kind g.2 with
  | some jk => if jk.1 = 1 then 2 else if jk.1 = 3 then 3 else 0
  | none => if g.2 = barS then 1 else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (j : Fin 4) (k : Fin nC) (c : Dev nD) : lv (cell j k c) () = if j = 1 then 2 else if j = 3 then 3 else 0 := by
  unfold lv; rw [kind_osem]
theorem lv_bar (c : Dev nD) : lv (barCell c) () = 1 := rfl

/-- A wait is allowed while all that is owed comes later in the order. -/
theorem mayWait_of (c : Dev nD) (sm : SemLoc sig) (n : ℕ) (hn : lv ((c : Thread nD τ), sm) () ≤ n) (O : CellTallies nD τ sig Unit)
    (h : ∀ g u, 0 < O g u → ∃ j k d, g = cell j k d ∧ n < lv (cell j k d) ()) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨j, k, d, rfl, -⟩ := h g u hg; rw [L_tc]; exact Finset.mem_singleton_self _)
    (fun p hp => by rw [Finset.mem_singleton.mp hp]; exact hn)
    (fun g u hg => by obtain ⟨j, k, d, rfl, h⟩ := h g u hg; exact h)

theorem mayWait_bar (c : Dev nD) :
    (levAts L lv : sProp 𝕄) ⊢ MayWait (c : Thread nD τ) barS () (tal 1 (toY c) order + tal 3 (toX c) order) :=
  mayWait_of c barS 1 (le_of_eq (lv_bar c)) _ fun g u hg => by
    rw [Pi.add_apply, Finsupp.add_apply] at hg
    rcases Nat.add_pos_iff_pos_or_pos.mp hg with hg | hg
    · obtain ⟨k, -, e⟩ := tal_pos hg
      exact ⟨1, k, toY c, e, by rw [lv_cell]; decide⟩
    · obtain ⟨k, -, e⟩ := tal_pos hg
      exact ⟨3, k, toX c, e, by rw [lv_cell]; decide⟩

theorem mayWait_recv (c : Dev nD) (k : Fin nC) (l : List (Fin nC)) :
    (levAts L lv : sProp 𝕄) ⊢ MayWait (c : Thread nD τ) (osem (1, k)) () (tal 3 (toX c) l) :=
  mayWait_of c (osem (1, k)) 2 (le_of_eq (lv_cell 1 k c)) _ fun g u hg => by
    obtain ⟨k, -, e⟩ := tal_pos hg
    exact ⟨3, k, toX c, e, by rw [lv_cell]; decide⟩

end Cert.KernelIdeal.Chunked
-- ==== Proof.Steps.lean ====
/- One step of each pass, and a pass over a list of chunks. -/
module

public import proofs.«01_k».proof.Proof.Protocol

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- What holds after a program of device `c`. -/
abbrev run (c : Dev nD) (e : Pg (F := F) PUnit) (Q : PUnit → sProp 𝕄) : sProp 𝕄 := wp frame (wpE (defs₀ (F := F)) 𝒱₀ (c : Thread nD τ) none) Set.univ e Q

/-- A pass, from its step: each chunk's resources are turned in once, what all chunks share is passed along. -/
theorem run_pass (c : Dev nD) (f : Fin nC → Pg (F := F) PUnit) (C : sProp 𝕄) [BI.Persistent C] (A B : Fin nC → sProp 𝕄) (J : List (Fin nC) → sProp 𝕄)
    (h : ∀ k l Q, iprop(C ∗ A k ∗ J (k :: l)) ⊢ iprop(((B k ∗ J l) -∗ Q ⟨⟩) -∗ run c (f k) Q)) :
    ∀ l Q, iprop(C ∗ bigSepL l A ∗ J l) ⊢ iprop(((bigSepL l B ∗ J []) -∗ Q ⟨⟩) -∗ run c (pass f l) Q)
  | [], Q => by
    unfold run pass
    rw [Prog.pure_eq_ret, wp_ret]
    iintro ⟨-, -, HJ⟩ Hk
    imodintro
    iapply Hk
    isplitr; · rw [bigSepL_nil]; iempintro
    iexact HJ
  | k :: l, Q => by
    unfold pass
    rw [bigSepL_cons', bigSepL_cons']
    unfold run
    rw [wp_bind]
    iintro ⟨#HC, ⟨HA, Hl⟩, HJ⟩ Hk
    iapply (h k l _) $$ [HA HJ]
    · isplitr; · iexact HC
      isplitl [HA] <;> iassumption
    iintro ⟨HB, HJ⟩
    iapply (run_pass c f C A B J h l Q) $$ [Hl HJ]
    · isplitr; · iexact HC
      isplitl [Hl] <;> iassumption
    iintro ⟨HBl, HJ⟩
    iapply Hk
    isplitl [HB HBl]
    · isplitl [HB] <;> iassumption
    iexact HJ

variable (I : Inp F)

/-! ## What every device may consult -/

/-- The cells' invariants, of all devices, under one map of names. -/
def invs (κ : GSem nD τ sig → ℕ) : sProp 𝕄 :=
  iprop((bigSep Finset.univ fun x : Dev nD × (Fin 4 × Fin nC) => cellInv ER (sched I) (κ (cell x.2.1 x.2.2 x.1)) (cell x.2.1 x.2.2 x.1))
    ∗ bigSep Finset.univ fun c : Dev nD => cellInv ER (sched I) (κ (barCell c)) (barCell c))
instance invs_persistent (κ : GSem nD τ sig → ℕ) : BI.Persistent (invs I κ) := by unfold invs; infer_instance

theorem inv_cell (κ : GSem nD τ sig → ℕ) (j : Fin 4) (k : Fin nC) (c : Dev nD) :
    invs I κ ⊢ cellInv ER (sched I) (κ (cell j k c)) (cell j k c) := by
  unfold invs
  exact sep_elim_left.trans (bigSep_elim (i := (c, (j, k))) (Φ := fun x : Dev nD × (Fin 4 × Fin nC) => cellInv ER (sched I) (κ (cell x.2.1 x.2.2 x.1)) (cell x.2.1 x.2.2 x.1)) (Finset.mem_univ _))
theorem inv_bar (κ : GSem nD τ sig → ℕ) (c : Dev nD) : invs I κ ⊢ cellInv ER (sched I) (κ (barCell c)) (barCell c) := by
  unfold invs
  exact sep_elim_right.trans (bigSep_elim (i := c) (Φ := fun c : Dev nD => cellInv ER (sched I) (κ (barCell c)) (barCell c)) (Finset.mem_univ _))

/-- Device `c`'s own copy cells are open. -/
def own0 (c : Dev nD) : sProp 𝕄 := bigSep Finset.univ fun jk : Fin 4 × Fin nC => reached ER (cell jk.1 jk.2 c) 0
/-- Device `d`'s cells of array `j` are open. -/
def peer0 (j : Fin 4) (d : Dev nD) : sProp 𝕄 := bigSep Finset.univ fun k : Fin nC => reached ER (cell j k d) 0
instance own0_persistent (c : Dev nD) : BI.Persistent (own0 (F := F) c) := by unfold own0; infer_instance
instance peer0_persistent (j : Fin 4) (c : Dev nD) : BI.Persistent (peer0 (F := F) j c) := by unfold peer0; infer_instance
theorem own_at (j : Fin 4) (k : Fin nC) (c : Dev nD) : own0 (F := F) c ⊢ reached ER (cell j k c) 0 := by
  unfold own0; exact bigSep_elim (i := (j, k)) (Φ := fun jk : Fin 4 × Fin nC => reached ER (cell jk.1 jk.2 c) 0) (Finset.mem_univ _)
theorem peer_at (j : Fin 4) (k : Fin nC) (d : Dev nD) : peer0 (F := F) j d ⊢ reached ER (cell j k d) 0 := by
  unfold peer0; exact bigSep_elim (i := k) (Φ := fun k : Fin nC => reached ER (cell j k d) 0) (Finset.mem_univ _)

/-- What the three passes of device `c` consult. -/
def ctx (κ : GSem nD τ sig → ℕ) (c : Dev nD) : sProp 𝕄 :=
  iprop(invs I κ ∗ own0 c ∗ peer0 1 (toY c) ∗ peer0 3 (toX c) ∗ levAts L lv)
instance ctx_persistent (κ : GSem nD τ sig → ℕ) (c : Dev nD) : BI.Persistent (ctx I κ c) := by unfold ctx; infer_instance

/-! ## Sending along `y` -/

def sendPre (c : Dev nD) (k : Fin nC) : sProp 𝕄 :=
  iprop(pPts I c k ∗ (∃ f, bPts (toY c) k f) ∗ dutyTok ER (cell 0 k c) 0 false ∗ dutyTok ER (cell 1 k (toY c)) 0 false)
def sendPost (c : Dev nD) (k : Fin nC) : sProp 𝕄 := cred (tallyAt (cell 0 k c) () (N k))
def sendJ (c : Dev nD) (l : List (Fin nC)) : sProp 𝕄 := iprop(∃ W, owes (c : Thread nD τ) (tal 1 (toY c) l + tal 3 (toX c) order) W)

theorem send_step (κ : GSem nD τ sig → ℕ) (c : Dev nD) (k : Fin nC) (l : List (Fin nC)) (Q : PUnit → sProp 𝕄) :
    iprop(ctx I κ c ∗ sendPre I c k ∗ sendJ c (k :: l))
      ⊢ iprop(((sendPost (F := F) c k ∗ sendJ c l) -∗ Q ⟨⟩) -∗ run c (send pM bM cc0_scratch1 cc0_scratch2 c k) Q) := by
  unfold ctx sendPre sendPost sendJ run send
  simp only [Prog.lift]
  iintro ⟨⟨#Hinv, #Hown, #HpY, -, -⟩, ⟨Hp, ⟨%f, Hb⟩, Ht0, Ht1⟩, ⟨%W, HO⟩⟩ Hk
  iapply (Rounds.wp_send_pointsTo 𝒱₀ ER (sched I) (c : Thread nD τ) none (c' := (toY c : Thread nD τ)) (src := pView pM c k) (dst := bView bM k)
      (sS := osem (0, k)) (sem := osem (1, k)) (q := qSend) (fs := I.p c) (κ₁ := κ (cell 0 k c)) (κ₂ := κ (cell 1 k (toY c)))
      (r₁ := 0) (r₂ := 0) (d₁ := false) (d₂ := false) (fd := f)
      (mem_cell I c 0 k) (mem_cell I (toY c) 1 k)
      () () (N k) (credit_b k) (amount_cell I c 0 k false) (amount_cell I (toY c) 1 k false) (O := tal 1 (toY c) l + tal 3 (toX c) order)
      (O₀ := tal 1 (toY c) (k :: l) + tal 3 (toX c) order) (by rw [tal_cons, add_right_comm]) (W := W)
      (by rw [payload_cell]; exact BI.Entails.refl _)
      (by rw [payload_cell]; exact Entails.of_eq (pointsTo_congr (landed_b I c k f)))) $$ [Hp Hb HO Ht0 Ht1]
  · isplitr; · iapply (inv_cell I κ 0 k c); iexact Hinv
    isplitr; · iapply (inv_cell I κ 1 k (toY c)); iexact Hinv
    isplitl [Hp]; · iexact Hp
    isplitl [Hb]; · iexact Hb
    isplitl [HO]; · iexact HO
    isplitl [Ht0]; · iexact Ht0
    isplitr; · iapply (own_at 0 k c); iexact Hown
    isplitl [Ht1]; · iexact Ht1
    iapply (peer_at 1 k (toY c)); iexact HpY
  iintro ⟨Hc, HO⟩
  rw [wp_ret]
  imodintro
  iapply Hk
  isplitl [Hc]; · iexact Hc
  iexists W; iexact HO

/-! ## Computing and sending along `x` -/

abbrev rAll (c : Dev nD) : sProp 𝕄 := (rM : Memref sig .tc .vmem S1024x1024 .f32).view.loc (c : Thread nD τ) ↦{fullShare} I.r c
abbrev gAll (c : Dev nD) : sProp 𝕄 := (gM : Memref sig .tc .vmem S1x1024 .f32).view.loc (c : Thread nD τ) ↦{fullShare} I.g c

def compPre (c : Dev nD) (k : Fin nC) : sProp 𝕄 :=
  iprop((cred (tallyAt (cell 1 k c) () (N k)) ∗ atPos ER (cell 1 k c) 0 ∅ 0) ∗ (∃ f, oPts c c k f) ∗ (∃ f, oPts (toX c) c k f)
    ∗ dutyTok ER (cell 2 k c) 0 false ∗ dutyTok ER (cell 3 k (toX c)) 0 false)
def compPost (c : Dev nD) (k : Fin nC) : sProp 𝕄 :=
  iprop(cred (tallyAt (cell 2 k c) () (N k)) ∗ atPos ER (cell 1 k c) 1 ∅ 0 ∗ bPts c k (landC I c))
def compJ (c : Dev nD) (l : List (Fin nC)) : sProp 𝕄 :=
  iprop(pAll I c qLoad ∗ rAll I c ∗ gAll I c ∗ ∃ W, owes (c : Thread nD τ) (tal 3 (toX c) l) W)

theorem comp_step (κ : GSem nD τ sig → ℕ) (c : Dev nD) (k : Fin nC) (l : List (Fin nC)) (Q : PUnit → sProp 𝕄) :
    iprop(ctx I κ c ∗ compPre c k ∗ compJ I c (k :: l))
      ⊢ iprop(((compPost I c k ∗ compJ I c l) -∗ Q ⟨⟩) -∗ run c (compute pM rM gM oM bM cc0_scratch2 cc0_scratch3 cc0_scratch4 c k) Q) := by
  unfold ctx compPre compPost compJ run compute
  simp only [Prog.lift, Prog.bind_op, Prog.bind_ret, Prog.pure_eq_ret]
  iintro ⟨⟨#Hinv, #Hown, -, #HpX, #Hlev⟩, ⟨⟨Hc1, Hat1⟩, ⟨%f, Ho⟩, ⟨%f', Ho'⟩, Ht2, Ht3⟩, ⟨Hp, Hr, Hg, ⟨%W, HO⟩⟩⟩ Hk
  iapply (Rounds.wp_wait_rest_token 𝒱₀ ER (sched I) (c : Thread nD τ) none (κ := κ (cell 1 k c)) (sm := osem (1, k))
      (wpE_waitDma2_eq 𝒱₀ (c : Thread nD τ) none Set.univ) (Set.mem_univ _) () (O := tal 3 (toX c) (k :: l)) (W := W) (R := 0) (m := 0) (T := ∅)
      ((Nat.zero_add _).trans (expect_cell I c 1 k).symm)) $$ [Hc1 HO Hat1]
  · isplitr; · iapply (inv_cell I κ 1 k c); iexact Hinv
    isplitl [Hc1]; · iexact Hc1
    isplitl [HO]; · iexact HO
    isplitr; · iapply (mayWait_recv c k (k :: l)); iexact Hlev
    iexact Hat1
  iintro ⟨HO, Hat1, -, Hpay⟩
  ihave Hb := (show _ ⊢ bPts c k (landC I c) from Entails.of_eq (rest_cell I c 1 k)) $$ Hpay
  iapply (wp_load_rect 𝒱₀ (c : Thread nD τ) none Set.univ (m := pM) (r := rectP c k) (S := Finset.univ) (q := qLoad) (f := I.p c) (Finset.subset_univ _)) $$ Hp
  iintro Hp
  iapply (wp_load_rect 𝒱₀ (c : Thread nD τ) none Set.univ (m := bM) (r := rectB k) (S := (bView bM k).view.set) (q := fullShare) (f := landC I c) (Finset.Subset.refl _)) $$ Hb
  iintro Hb
  rw [read_b]
  iapply (wp_load_rect 𝒱₀ (c : Thread nD τ) none Set.univ (m := rM) (r := rectR c k) (S := Finset.univ) (q := fullShare) (f := I.r c) (Finset.subset_univ _)) $$ Hr
  iintro Hr
  iapply (wp_load_rect 𝒱₀ (c : Thread nD τ) none Set.univ (m := gM) (r := rectG) (S := Finset.univ) (q := fullShare) (f := I.g c) (Finset.subset_univ _)) $$ Hg
  iintro Hg
  iapply (wp_load_rect 𝒱₀ (c : Thread nD τ) none Set.univ (m := oM) (r := rectR c k) (S := (oView oM c k).view.set) (q := fullShare) (f := f) (le_of_eq (set_o c k))) $$ Ho
  iintro Ho
  iapply (wp_store 𝒱₀ (c : Thread nD τ) none Set.univ (m := oM) (r := rectR c k) (Mk := Finset.univ) (S := (oView oM c k).view.set) (f := f) (w := chunkVal I c k) (le_of_eq (set_o c k))) $$ Ho
  iintro Ho
  have hs : (oPts (F := F) c c k ((oM.access (rectR c k)).write (Elt F) f (chunkVal I c k) Finset.univ) : sProp 𝕄) = oPts c c k (outV I c) :=
    pointsTo_congr fun i hi => (congrFun (write_o c k f (chunkVal I c k)) i).trans (stored_o I c k f i hi)
  ihave Ho := (Entails.of_eq hs) $$ Ho
  iapply (Rounds.wp_send_pointsTo 𝒱₀ ER (sched I) (c : Thread nD τ) none (c' := (toX c : Thread nD τ)) (src := oView oM c k) (dst := oView oM c k)
      (sS := osem (2, k)) (sem := osem (3, k)) (q := fullShare) (fs := outV I c) (κ₁ := κ (cell 2 k c)) (κ₂ := κ (cell 3 k (toX c)))
      (r₁ := 0) (r₂ := 0) (d₁ := false) (d₂ := false) (fd := f')
      (mem_cell I c 2 k) (mem_cell I (toX c) 3 k)
      () () (N k) (credit_o c k) (amount_cell I c 2 k false) (amount_cell I (toX c) 3 k false) (O := tal 3 (toX c) l)
      (O₀ := tal 3 (toX c) (k :: l)) rfl
      (by rw [payload_cell]; exact BI.Entails.refl _)
      (by rw [payload_cell]; unfold chunkPay; rw [toX_toX]; exact Entails.of_eq (pointsTo_congr (landed_o I c k f')))) $$ [Ho Ho' HO Ht2 Ht3]
  · isplitr; · iapply (inv_cell I κ 2 k c); iexact Hinv
    isplitr; · iapply (inv_cell I κ 3 k (toX c)); iexact Hinv
    isplitl [Ho]; · iexact Ho
    isplitl [Ho']; · iexact Ho'
    isplitl [HO]; · iexact HO
    isplitl [Ht2]; · iexact Ht2
    isplitr; · iapply (own_at 2 k c); iexact Hown
    isplitl [Ht3]; · iexact Ht3
    iapply (peer_at 3 k (toX c)); iexact HpX
  iintro ⟨Hc, HO⟩
  rw [wp_ret]
  imodintro
  iapply Hk
  isplitl [Hc Hat1 Hb]
  · isplitl [Hc]; · iexact Hc
    isplitl [Hat1]; · iexact Hat1
    iexact Hb
  isplitl [Hp]; · iexact Hp
  isplitl [Hr]; · iexact Hr
  isplitl [Hg]; · iexact Hg
  iexists _; iexact HO

/-! ## Waiting for the copies to be over -/

/-- What a wait on cell `j` of chunk `k` takes. -/
abbrev waitPre (c : Dev nD) (j : Fin 4) (k : Fin nC) : sProp 𝕄 := iprop(cred (tallyAt (cell j k c) () (N k)) ∗ atPos ER (cell j k c) 0 ∅ 0)
/-- What it leaves. -/
abbrev waitPost (c : Dev nD) (j : Fin 4) (k : Fin nC) : sProp 𝕄 := iprop(atPos ER (cell j k c) 1 ∅ 0 ∗ chunkPay I c k j)

def drainPre (c : Dev nD) (k : Fin nC) : sProp 𝕄 := iprop(waitPre c 0 k ∗ waitPre c 2 k ∗ waitPre c 3 k)
def drainPost (c : Dev nD) (k : Fin nC) : sProp 𝕄 := iprop(waitPost I c 0 k ∗ waitPost I c 2 k ∗ waitPost I c 3 k)
def drainJ (c : Dev nD) (_ : List (Fin nC)) : sProp 𝕄 := iprop(∃ W, owes (c : Thread nD τ) (0 : CellTallies nD τ sig Unit) W)

/-- A wait by a device that owes nothing. -/
theorem drain_wait (κ : GSem nD τ sig → ℕ) (c : Dev nD) (j : Fin 4) (k : Fin nC) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (osem (j, k)) (N k) K)
    (e : PUnit → Pg (F := F) PUnit) (W : Waits sig Unit) (Q : PUnit → sProp 𝕄) :
    iprop(invs I κ ∗ waitPre c j k ∗ owes (c : Thread nD τ) (0 : CellTallies nD τ sig Unit) W)
      ⊢ iprop(((waitPost I c j k ∗ ∃ W, owes (c : Thread nD τ) (0 : CellTallies nD τ sig Unit) W) -∗ run c (e ⟨⟩) Q) -∗ run c (.op w e) Q) := by
  unfold run
  iintro ⟨#Hinv, ⟨Hc, Hat⟩, HO⟩ Hk
  iapply (Rounds.wp_wait_rest_token 𝒱₀ ER (sched I) (c : Thread nD τ) none (κ := κ (cell j k c)) (sm := osem (j, k))
      hw (Set.mem_univ _) () (O := 0) (W := W) (R := 0) (m := 0) (T := ∅)
      ((Nat.zero_add _).trans (expect_cell I c j k).symm)) $$ [Hc HO Hat]
  · isplitr; · iapply (inv_cell I κ j k c); iexact Hinv
    isplitl [Hc]; · iexact Hc
    isplitl [HO]; · iexact HO
    isplitr; · rw [MayWait_zero]; iempintro
    iexact Hat
  iintro ⟨HO, Hat, -, Hpay⟩
  ihave Hb := (Entails.of_eq (rest_cell I c j k)) $$ Hpay
  iapply Hk
  isplitl [Hat Hb]
  · isplitl [Hat] <;> iassumption
  iexists _; iexact HO

theorem drain_step (κ : GSem nD τ sig → ℕ) (c : Dev nD) (k : Fin nC) (l : List (Fin nC)) (Q : PUnit → sProp 𝕄) :
    iprop(ctx I κ c ∗ drainPre c k ∗ drainJ c (k :: l))
      ⊢ iprop(((drainPost I c k ∗ drainJ (F := F) c l) -∗ Q ⟨⟩) -∗ run c (drain pM oM bM cc0_scratch1 cc0_scratch3 cc0_scratch4 c k) Q) := by
  unfold ctx drainPre drainPost drainJ drain
  simp only [Prog.lift, Prog.bind_op, Prog.bind_ret, Prog.pure_eq_ret]
  iintro ⟨⟨#Hinv, -, -, -, -⟩, ⟨H0, H2, H3⟩, ⟨%W, HO⟩⟩ Hk
  iapply (drain_wait I κ c 0 k (wpE_waitDma2_eq (src := bView bM k) (dst := pView pM c k) 𝒱₀ (c : Thread nD τ) none Set.univ) _ W Q) $$ [H0 HO]
  · isplitr; · iexact Hinv
    isplitl [H0] <;> iassumption
  iintro ⟨H0, ⟨%W, HO⟩⟩
  iapply (drain_wait I κ c 2 k (wpE_waitDma2_eq (src := oView oM c k) (dst := oView oM c k) 𝒱₀ (c : Thread nD τ) none Set.univ) _ W Q) $$ [H2 HO]
  · isplitr; · iexact Hinv
    isplitl [H2] <;> iassumption
  iintro ⟨H2, ⟨%W, HO⟩⟩
  iapply (drain_wait I κ c 3 k (wpE_waitDma2_eq (src := oView oM c k) (dst := oView oM c k) 𝒱₀ (c : Thread nD τ) none Set.univ) _ W Q) $$ [H3 HO]
  · isplitr; · iexact Hinv
    isplitl [H3] <;> iassumption
  iintro ⟨H3, HO⟩
  unfold run
  rw [wp_ret]
  imodintro
  iapply Hk
  isplitr [HO]
  · isplitl [H0]; · iexact H0
    isplitl [H2] <;> iassumption
  iexact HO

end Cert.KernelIdeal.Chunked
-- ==== Proof.Body.lean ====
/- The whole body at a device: the handshake, the three passes, and what is left when they are over. -/
module

public import proofs.«01_k».proof.Proof.Steps
public import Idealize.ShloMosaic.Lib.Rounds.Family

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Families over the chunks -/

/-- All chunks, in the order of the passes. -/
theorem chunks_eq (Φ : Fin nC → sProp 𝕄) : bigSep Finset.univ Φ = bigSepL order Φ := bigSep_univ_eq_bigSepL order (by decide) (by decide) Φ

/-- A family over the copy cells, by array. -/
theorem arrays_eq (Φ : Fin 4 × Fin nC → sProp 𝕄) :
    bigSep Finset.univ Φ = iprop((bigSep Finset.univ fun k => Φ (0, k)) ∗ (bigSep Finset.univ fun k => Φ (1, k))
      ∗ (bigSep Finset.univ fun k => Φ (2, k)) ∗ bigSep Finset.univ fun k => Φ (3, k)) :=
  (bigSep_univ_prod Φ).trans (bigSep_univ_eq_bigSepL [0, 1, 2, 3] (by decide) (by decide) _)

/-- The rights to discharge the duties of array `j` of device `d`. -/
def toks (j : Fin 4) (d : Dev nD) : sProp 𝕄 := bigSep Finset.univ fun k : Fin nC => dutyTok ER (cell j k d) 0 false
/-- The credits a device waits for at its array `j`. -/
def creds (j : Fin 4) (c : Dev nD) : sProp 𝕄 := bigSep Finset.univ fun k : Fin nC => cred (tallyAt (cell j k c) () (N k))
/-- Device `c`'s cells of array `j` have their owner in round `r`. -/
def seats (j : Fin 4) (c : Dev nD) (r : ℕ) : sProp 𝕄 := bigSep Finset.univ fun k : Fin nC => atPos ER (cell j k c) r ∅ 0

/-- A device's open cells are open to its neighbours. -/
theorem own_peer (j : Fin 4) (c : Dev nD) : own0 (F := F) c ⊢ peer0 j c := by
  unfold own0 peer0
  rw [bigSep_univ_prod]
  exact bigSep_elim (i := j) (Φ := fun j : Fin 4 => bigSep Finset.univ fun k : Fin nC => reached ER (cell j k c) 0) (Finset.mem_univ _)

/-! ## The buffers by chunks -/

/-- A whole buffer, by the chunks `K` and what they leave of it. -/
theorem split_chunks {ℓ : Loc nD τ sig} (K : Fin nC → Finset (Idx ℓ)) (h : ∀ k k', k ≠ k' → Disjoint (K k) (K k')) (q : PosShare TreeShare) (f : Buf (Elt F) ℓ) :
    (ℓ ↦{q} f : sProp 𝕄) ⊣⊢ iprop((bigSep Finset.univ fun k => ℓ ↦[K k]{q} f) ∗ ℓ ↦[Finset.univ \ Finset.univ.biUnion K]{q} f) := by
  rw [← pointsTo_biUnion Finset.univ K fun k _ k' _ hk => h k k' hk]
  exact pointsTo_split_subset (Finset.subset_univ _)

/-- A whole buffer, by two halves. -/
theorem split_halves {ℓ : Loc nD τ sig} (A B : Finset (Idx ℓ)) (h : Finset.univ \ A = B) (q : PosShare TreeShare) (f : Buf (Elt F) ℓ) :
    (ℓ ↦{q} f : sProp 𝕄) ⊣⊢ iprop((ℓ ↦[A]{q} f) ∗ ℓ ↦[B]{q} f) :=
  h ▸ pointsTo_split_subset (Finset.subset_univ _)

/-- A part of a buffer that the chunks `K` make up. -/
theorem split_cover {ℓ : Loc nD τ sig} (S : Finset (Idx ℓ)) (K : Fin nC → Finset (Idx ℓ)) (h : ∀ k k', k ≠ k' → Disjoint (K k) (K k'))
    (hc : Finset.univ.biUnion K = S) (q : PosShare TreeShare) (f : Buf (Elt F) ℓ) :
    (ℓ ↦[S]{q} f : sProp 𝕄) = bigSep Finset.univ fun k => ℓ ↦[K k]{q} f := by
  rw [← pointsTo_biUnion Finset.univ K fun k _ k' _ hk => h k k' hk, hc]

variable (I : Inp F)

/-- What no copy takes of the copies' share of the staged partial sums. -/
def pRest (c : Dev nD) : sProp 𝕄 :=
  (pM : Memref sig .tc .vmem S1x1024x1024 .f32).view.loc (c : Thread nD τ) ↦[Finset.univ \ Finset.univ.biUnion (pSet c)]{qSend} I.p c

/-- The staged partial sums: the loads' share, and the copies' share by chunks. -/
theorem p_split (c : Dev nD) : pAll I c fullShare ⊣⊢ iprop(pAll I c qLoad ∗ (bigSep Finset.univ fun k => pPts I c k) ∗ pRest I c) := by
  have h := split_chunks (F := F) (ℓ := (pM : Memref sig .tc .vmem S1x1024x1024 .f32).view.loc (c : Thread nD τ)) (pSet c) (fun _ _ h => pSet_disj c h) qSend (I.p c)
  exact (pointsTo_share (PosShare.mem_left_op_right fullShare)).trans ⟨sep_mono_right h.1, sep_mono_right h.2⟩

/-- The receive buffer, by chunks. -/
theorem b_split (c : Dev nD) (f : cc0_scratch0.ty.Contents (Elt F)) :
    ((bM : Memref sig .tc .vmem S512x1024 .f32).view.loc (c : Thread nD τ) ↦{fullShare} f : sProp 𝕄) = bigSep Finset.univ fun k => bPts c k f :=
  split_cover (F := F) (ℓ := (bM : Memref sig .tc .vmem S512x1024 .f32).view.loc (c : Thread nD τ)) Finset.univ bSet (fun _ _ h => bSet_disj h) bSet_cover fullShare f

/-- A half of the staged result, by chunks. -/
theorem half_split (c d : Dev nD) (f : cc0_stg3_0.ty.Contents (Elt F)) :
    ((oM : Memref sig .tc .vmem S1024x1024 .f32).view.loc (c : Thread nD τ) ↦[oHalf d]{fullShare} f : sProp 𝕄) = bigSep Finset.univ fun k => oPts c d k f :=
  split_cover (F := F) (ℓ := (oM : Memref sig .tc .vmem S1024x1024 .f32).view.loc (c : Thread nD τ)) (oHalf d) (oSet d) (fun _ _ h => oSet_disj d h) rfl fullShare f

/-- The staged result, by halves. -/
theorem o_split (c : Dev nD) (f : cc0_stg3_0.ty.Contents (Elt F)) :
    ((oM : Memref sig .tc .vmem S1024x1024 .f32).view.loc (c : Thread nD τ) ↦{fullShare} f : sProp 𝕄)
      ⊣⊢ iprop(((oM : Memref sig .tc .vmem S1024x1024 .f32).view.loc (c : Thread nD τ) ↦[oHalf c]{fullShare} f)
        ∗ (oM : Memref sig .tc .vmem S1024x1024 .f32).view.loc (c : Thread nD τ) ↦[oHalf (toX c)]{fullShare} f) :=
  split_halves (F := F) (ℓ := (oM : Memref sig .tc .vmem S1024x1024 .f32).view.loc (c : Thread nD τ)) (oHalf c) (oHalf (toX c)) (oHalf_compl c) fullShare f

/-- Chunks of known contents are chunks of some contents. -/
theorem some_b (c : Dev nD) (f : cc0_scratch0.ty.Contents (Elt F)) :
    (bigSep Finset.univ (fun k => bPts c k f) : sProp 𝕄) ⊢ bigSep Finset.univ fun k => iprop(∃ f, bPts c k f) :=
  bigSep_mono fun k _ => show (bPts c k f : sProp 𝕄) ⊢ iprop(∃ f, bPts c k f) by iintro H; iexists f; iexact H
theorem some_o (c d : Dev nD) (f : cc0_stg3_0.ty.Contents (Elt F)) :
    (bigSep Finset.univ (fun k => oPts c d k f) : sProp 𝕄) ⊢ bigSep Finset.univ fun k => iprop(∃ f, oPts c d k f) :=
  bigSep_mono fun k _ => show (oPts c d k f : sProp 𝕄) ⊢ iprop(∃ f, oPts c d k f) by iintro H; iexists f; iexact H

/-! ## What each pass takes and leaves, by kind -/

theorem sendPre_all (c : Dev nD) : bigSepL order (sendPre I c)
    = iprop(bigSep Finset.univ (fun k => pPts I c k) ∗ bigSep Finset.univ (fun k => iprop(∃ f, bPts (toY c) k f)) ∗ toks 0 c ∗ toks 1 (toY c)) := by
  rw [← chunks_eq]; unfold sendPre toks; rw [bigSep_sep', bigSep_sep', bigSep_sep']

theorem sendPost_all (c : Dev nD) : bigSepL order (sendPost (F := F) c) = creds 0 c := by rw [← chunks_eq]; rfl

theorem compPre_all (c : Dev nD) : bigSepL order (compPre (F := F) c)
    = iprop((creds 1 c ∗ seats 1 c 0) ∗ bigSep Finset.univ (fun k => iprop(∃ f, oPts c c k f)) ∗ bigSep Finset.univ (fun k => iprop(∃ f, oPts (toX c) c k f))
      ∗ toks 2 c ∗ toks 3 (toX c)) := by
  rw [← chunks_eq]; unfold compPre toks creds seats; rw [bigSep_sep', bigSep_sep', bigSep_sep', bigSep_sep', bigSep_sep']

theorem compPost_all (c : Dev nD) : bigSepL order (compPost I c)
    = iprop(creds 2 c ∗ seats 1 c 1 ∗ bigSep Finset.univ fun k => bPts c k (landC I c)) := by
  rw [← chunks_eq]; unfold compPost creds seats; rw [bigSep_sep', bigSep_sep']

theorem drainPre_all (c : Dev nD) : bigSepL order (drainPre (F := F) c)
    = iprop((creds 0 c ∗ seats 0 c 0) ∗ (creds 2 c ∗ seats 2 c 0) ∗ creds 3 c ∗ seats 3 c 0) := by
  rw [← chunks_eq]; unfold drainPre creds seats; simp only [bigSep_sep']

theorem drainPost_all (c : Dev nD) : bigSepL order (drainPost I c)
    = iprop((seats 0 c 1 ∗ bigSep Finset.univ fun k => pPts I c k) ∗ (seats 2 c 1 ∗ bigSep Finset.univ fun k => oPts c c k (outV I c))
      ∗ seats 3 c 1 ∗ bigSep Finset.univ fun k => oPts c (toX c) k (outV I c)) := by
  rw [← chunks_eq]; unfold drainPost seats; simp only [bigSep_sep']; rfl

/-! ## Closing -/

/-- Every copy cell of device `c` is over: its counters are the device's again, at zero. -/
theorem close_cells (κ : GSem nD τ sig → ℕ) (c : Dev nD) :
    iprop(invs I κ ∗ seats 0 c 1 ∗ seats 1 c 1 ∗ seats 2 c 1 ∗ seats 3 c 1)
      ⊢ iprop(|={Set.univ}=> bigSep Finset.univ fun jk : Fin 4 × Fin nC => semVal (cell jk.1 jk.2 c) 0) := by
  have h := Rounds.cells_close ER (sched I) (Finset.univ : Finset (Fin 4 × Fin nC)) (fun jk => cell jk.1 jk.2 c) (fun jk => κ (cell jk.1 jk.2 c))
    (Es := Set.univ) (fun _ _ => Set.mem_univ _) (fun _ _ h => h) (fun _ => 1) (fun jk _ => duties_later I _)
  refine BIBase.Entails.trans ?_ h
  refine BIBase.Entails.trans ?_ (bigSep_with_persistent (R := invs I κ) (Φ := fun jk : Fin 4 × Fin nC => atPos ER (cell jk.1 jk.2 c) 1 ∅ 0) fun jk _ => ?_)
  · exact sep_mono_right (Entails.of_eq (arrays_eq (F := F) fun jk => atPos ER (cell jk.1 jk.2 c) 1 ∅ 0).symm)
  · exact sep_mono_left (inv_cell I κ jk.1 jk.2 c)

/-! ## The body -/

/-- What every run of device `c`'s body may consult. -/
def known (κ : GSem nD τ sig → ℕ) (c : Dev nD) : sProp 𝕄 :=
  iprop(invs I κ ∗ levAts L lv ∗ reached ER (barCell (toY c)) 0 ∗ reached ER (barCell (toX c)) 0)
instance known_persistent (κ : GSem nD τ sig → ℕ) (c : Dev nD) : BI.Persistent (known I κ c) := by unfold known; infer_instance

/-- Device `c`'s part in the exchange, before: its place at the handshake, the duties it discharges, the credits it waits for. -/
def linear (c : Dev nD) : sProp 𝕄 :=
  iprop(atPos ER (barCell c) 0 ∅ 0 ∗ (dutyTok ER (barCell (toY c)) 0 false ∗ dutyTok ER (barCell (toX c)) 0 true)
    ∗ (toks 0 c ∗ toks 1 (toY c) ∗ toks 2 c ∗ toks 3 (toX c))
    ∗ cred (tallyAt (barCell c) () 2) ∗ creds 1 c ∗ creds 3 c)

/-- Its own copy cells, open. -/
def opened (c : Dev nD) : sProp 𝕄 := bigSep Finset.univ fun jk : Fin 4 × Fin nC => iprop(atPos ER (cell jk.1 jk.2 c) 0 ∅ 0 ∗ reached ER (cell jk.1 jk.2 c) 0)

theorem opened_eq (c : Dev nD) : opened (F := F) c = iprop((seats 0 c 0 ∗ seats 1 c 0 ∗ seats 2 c 0 ∗ seats 3 c 0) ∗ own0 c) := by
  unfold opened own0
  rw [bigSep_sep', arrays_eq (F := F) fun jk => atPos ER (cell jk.1 jk.2 c) 0 ∅ 0]; rfl

/-- The three inputs as staged. -/
def inputs (c : Dev nD) : sProp 𝕄 := iprop(pAll I c fullShare ∗ rAll I c ∗ gAll I c)

/-- What device `c`'s body takes. -/
def before (c : Dev nD) (W : Waits sig Unit) (fo : cc0_stg3_0.ty.Contents (Elt F)) (fb : cc0_scratch0.ty.Contents (Elt F)) : sProp 𝕄 :=
  iprop(linear c ∗ opened c ∗ inputs I c ∗ ((oM : Memref sig .tc .vmem S1024x1024 .f32).view.loc (c : Thread nD τ) ↦{fullShare} fo)
    ∗ ((bM : Memref sig .tc .vmem S512x1024 .f32).view.loc (c : Thread nD τ) ↦{fullShare} fb) ∗ owes (c : Thread nD τ) (owed₀ c) W)

/-- What it leaves: every counter at zero, the inputs as they were, the result whole. -/
def after (c : Dev nD) : sProp 𝕄 :=
  iprop((semVal (barCell c) 0 ∗ bigSep Finset.univ fun jk : Fin 4 × Fin nC => semVal (cell jk.1 jk.2 c) 0)
    ∗ inputs I c ∗ ((oM : Memref sig .tc .vmem S1024x1024 .f32).view.loc (c : Thread nD τ) ↦{fullShare} outV I c)
    ∗ (∃ fb : cc0_scratch0.ty.Contents (Elt F), (bM : Memref sig .tc .vmem S512x1024 .f32).view.loc (c : Thread nD τ) ↦{fullShare} fb)
    ∗ ∃ W, owes (c : Thread nD τ) (0 : CellTallies nD τ sig Unit) W)

/-- What is held when the passes are over: the result by halves, the partial sums by chunks, every cell in its second round. -/
def done (c : Dev nD) : sProp 𝕄 :=
  iprop((atPos ER (barCell c) 1 ∅ 0 ∗ seats 0 c 1 ∗ seats 1 c 1 ∗ seats 2 c 1 ∗ seats 3 c 1)
    ∗ (pAll I c qLoad ∗ (bigSep Finset.univ fun k => pPts I c k) ∗ pRest I c) ∗ (rAll I c ∗ gAll I c)
    ∗ ((bigSep Finset.univ fun k => oPts c c k (outV I c)) ∗ bigSep Finset.univ fun k => oPts c (toX c) k (outV I c))
    ∗ (bigSep Finset.univ fun k => bPts c k (landC I c))
    ∗ ∃ W, owes (c : Thread nD τ) (0 : CellTallies nD τ sig Unit) W)

/-- The cells close and the buffers are whole again. -/
theorem finish (κ : GSem nD τ sig → ℕ) (c : Dev nD) : iprop(invs I κ ∗ done I c) ⊢ iprop(|={Set.univ}=> after I c) := by
  unfold done after inputs
  iintro ⟨#Hinv, ⟨HatB, Hs⟩, Hp, ⟨Hr, Hg⟩, ⟨Ho, HoX⟩, Hb, HO⟩
  imod (close_cells I κ c) $$ [Hs] with Hz
  · isplitr; · iexact Hinv
    iexact Hs
  imod (Rounds.cell_close ER (sched I) (Set.mem_univ (κ (barCell c))) (fun h => h) (R := 1) (duties_later I (barCell c))) $$ [HatB] with HzB
  · isplitr; · iapply (inv_bar I κ c); iexact Hinv
    iexact HatB
  imodintro
  isplitl [Hz HzB]
  · isplitl [HzB] <;> iassumption
  isplitl [Hp Hr Hg]
  · isplitl [Hp]; · iapply (p_split I c).2; iexact Hp
    isplitl [Hr] <;> iassumption
  isplitl [Ho HoX]
  · iapply (o_split c (outV I c)).2
    isplitl [Ho]
    · iapply (Entails.of_eq (half_split c c (outV I c)).symm); iexact Ho
    · iapply (Entails.of_eq (half_split c (toX c) (outV I c)).symm); iexact HoX
  isplitl [Hb]
  · iexists landC I c
    iapply (Entails.of_eq (b_split c (landC I c)).symm); iexact Hb
  iexact HO

/-- What the three passes take. -/
def passIn (c : Dev nD) : sProp 𝕄 :=
  iprop(atPos ER (barCell c) 1 ∅ 0 ∗ (toks 0 c ∗ toks 1 (toY c) ∗ toks 2 c ∗ toks 3 (toX c)) ∗ (creds 1 c ∗ creds 3 c)
    ∗ (seats 0 c 0 ∗ seats 1 c 0 ∗ seats 2 c 0 ∗ seats 3 c 0)
    ∗ (pAll I c qLoad ∗ (bigSep Finset.univ fun k => pPts I c k) ∗ pRest I c) ∗ (rAll I c ∗ gAll I c)
    ∗ (bigSep Finset.univ fun k => iprop(∃ f, bPts (toY c) k f))
    ∗ ((bigSep Finset.univ fun k => iprop(∃ f, oPts c c k f)) ∗ bigSep Finset.univ fun k => iprop(∃ f, oPts (toX c) c k f))
    ∗ ∃ W, owes (c : Thread nD τ) (tal 1 (toY c) order + tal 3 (toX c) order) W)

/-- The three passes. -/
theorem passes_run (κ : GSem nD τ sig → ℕ) (c : Dev nD) (Q : PUnit → sProp 𝕄) :
    iprop(ctx I κ c ∗ passIn I c)
      ⊢ iprop((done I c -∗ Q ⟨⟩) -∗ run c (pass (send pM bM cc0_scratch1 cc0_scratch2 c) order >>= fun _ =>
          pass (compute pM rM gM oM bM cc0_scratch2 cc0_scratch3 cc0_scratch4 c) order >>= fun _ =>
          pass (drain pM oM bM cc0_scratch1 cc0_scratch3 cc0_scratch4 c) order) Q) := by
  unfold passIn done run
  iintro ⟨#Hctx, HatB, ⟨Ht0, Ht1, Ht2, Ht3⟩, ⟨Hc1, Hc3⟩, ⟨Hs0, Hs1, Hs2, Hs3⟩, ⟨HpL, HpS, HpR⟩, ⟨Hr, Hg⟩, HbY, ⟨Ho, HoX⟩, HO⟩ Hk
  rw [wp_bind]
  iapply (run_pass c (send pM bM cc0_scratch1 cc0_scratch2 c) (ctx I κ c) (sendPre I c) (sendPost c) (sendJ c) (fun k l Q => send_step I κ c k l Q) order _) $$ [HpS HbY Ht0 Ht1 HO]
  · isplitr; · iexact Hctx
    rw [sendPre_all]; unfold sendJ
    isplitl [HpS HbY Ht0 Ht1]
    · isplitl [HpS]; · iexact HpS
      isplitl [HbY]; · iexact HbY
      isplitl [Ht0]; · iexact Ht0
      iexact Ht1
    iexact HO
  rw [sendPost_all]; unfold sendJ
  rw [show tal 1 (toY c) [] = 0 from rfl, zero_add]
  iintro ⟨Hc0, HO⟩
  rw [wp_bind]
  iapply (run_pass c (compute pM rM gM oM bM cc0_scratch2 cc0_scratch3 cc0_scratch4 c) (ctx I κ c) (compPre c) (compPost I c) (compJ I c)
      (fun k l Q => comp_step I κ c k l Q) order _) $$ [Hc1 Hs1 Ho HoX Ht2 Ht3 HpL Hr Hg HO]
  · isplitr; · iexact Hctx
    rw [compPre_all]; unfold compJ
    isplitl [Hc1 Hs1 Ho HoX Ht2 Ht3]
    · isplitl [Hc1 Hs1]; · isplitl [Hc1] <;> iassumption
      isplitl [Ho]; · iexact Ho
      isplitl [HoX]; · iexact HoX
      isplitl [Ht2] <;> iassumption
    isplitl [HpL]; · iexact HpL
    isplitl [Hr]; · iexact Hr
    isplitl [Hg]; · iexact Hg
    iexact HO
  rw [compPost_all]; unfold compJ
  rw [show tal 3 (toX c) [] = 0 from rfl]
  iintro ⟨⟨Hc2, Hs1, Hb⟩, HpL, Hr, Hg, HO⟩
  iapply (run_pass c (drain pM oM bM cc0_scratch1 cc0_scratch3 cc0_scratch4 c) (ctx I κ c) (drainPre c) (drainPost I c) (drainJ c)
      (fun k l Q => drain_step I κ c k l Q) order _) $$ [Hc0 Hs0 Hc2 Hs2 Hc3 Hs3 HO]
  · isplitr; · iexact Hctx
    rw [drainPre_all]; unfold drainJ
    isplitr [HO]
    · isplitl [Hc0 Hs0]; · isplitl [Hc0] <;> iassumption
      isplitl [Hc2 Hs2]; · isplitl [Hc2] <;> iassumption
      isplitl [Hc3] <;> iassumption
    iexact HO
  rw [drainPost_all]; unfold drainJ
  iintro ⟨⟨⟨Hs0, HpS⟩, ⟨Hs2, Ho⟩, ⟨Hs3, HoX⟩⟩, HO⟩
  iapply Hk
  isplitl [HatB Hs0 Hs1 Hs2 Hs3]
  · isplitl [HatB]; · iexact HatB
    isplitl [Hs0]; · iexact Hs0
    isplitl [Hs1]; · iexact Hs1
    isplitl [Hs2] <;> iassumption
  isplitl [HpL HpS HpR]
  · isplitl [HpL]; · iexact HpL
    isplitl [HpS] <;> iassumption
  isplitl [Hr Hg]; · isplitl [Hr] <;> iassumption
  isplitl [Ho HoX]; · isplitl [Ho] <;> iassumption
  isplitl [Hb]; · iexact Hb
  iexact HO

/-- The body, from what it takes to what it leaves. -/
theorem body_run (κ : GSem nD τ sig → ℕ) (c : Dev nD) (W : Waits sig Unit) (fo : cc0_stg3_0.ty.Contents (Elt F)) (fb : cc0_scratch0.ty.Contents (Elt F))
    (Q : PUnit → sProp 𝕄) :
    iprop(known I κ c ∗ before I c W fo fb)
      ⊢ iprop((after I c -∗ Q ⟨⟩) -∗ run c (body pM rM gM oM bM cc0_scratch1 cc0_scratch2 cc0_scratch3 cc0_scratch4) Q) := by
  unfold known before linear inputs run body
  rw [opened_eq]
  simp only [semSignalWord, semWaitWord, Prog.lift, Prog.bind_op, Prog.bind_ret, Prog.pure_eq_ret, wp_deviceId]
  iintro ⟨⟨#Hinv, #Hlev, #HrY, #HrX⟩, ⟨HatB, ⟨HtY, HtX⟩, ⟨Ht0, Ht1, Ht2, Ht3⟩, HcB, Hc1, Hc3⟩, ⟨⟨Hs0, Hs1, Hs2, Hs3⟩, #Hown⟩, ⟨Hp, Hr, Hg⟩, Ho, Hb, HO⟩ Hk
  unfold owed₀
  -- the neighbour along `y` is told that the receive buffer is free
  iapply (Rounds.wp_signal 𝒱₀ ER (sched I) (c : Thread nD τ) none (dst := (toY c : Thread nD τ)) (κ := κ (barCell (toY c))) (r := 0)
      (d := false) (mem_bar I (toY c) false) ((amount_bar I (toY c) false).trans (by decide)) ()
      (tal 1 (toY c) order + tal 3 (toX c) order + tallyAt (barCell (toX c)) () 1) rfl) $$ [HO HtY Hb]
  · isplitr; · iapply (inv_bar I κ (toY c)); iexact Hinv
    isplitl [HO]; · iexact HO
    isplitl [HtY]; · iexact HtY
    isplitl [Hb]
    · rw [payload_barY]; unfold barPayY; rw [toY_toY]
      isplitl [Hb]; · iexists fb; iexact Hb
      iapply (show own0 (F := F) c ⊢ (bigSep Finset.univ fun k : Fin nC => reached ER (cell 1 k c) 0) from own_peer 1 c); iexact Hown
    iexact HrY
  iintro HO
  -- the neighbour along `x` is told that its half of the result is free
  icases (o_split c fo).1 $$ Ho with ⟨Ho, HoX⟩
  iapply (Rounds.wp_signal 𝒱₀ ER (sched I) (c : Thread nD τ) none (dst := (toX c : Thread nD τ)) (κ := κ (barCell (toX c))) (r := 0)
      (d := true) (mem_bar I (toX c) true) ((amount_bar I (toX c) true).trans (by decide)) ()
      (tal 1 (toY c) order + tal 3 (toX c) order) rfl) $$ [HO HtX HoX]
  · isplitr; · iapply (inv_bar I κ (toX c)); iexact Hinv
    isplitl [HO]; · iexact HO
    isplitl [HtX]; · iexact HtX
    isplitl [HoX]
    · rw [payload_barX]; unfold barPayX; rw [toX_toX]
      isplitl [HoX]; · iexists fo; iexact HoX
      iapply (show own0 (F := F) c ⊢ (bigSep Finset.univ fun k : Fin nC => reached ER (cell 3 k c) 0) from own_peer 3 c); iexact Hown
    iexact HrX
  iintro HO
  -- both neighbours have said the same
  iapply (Rounds.wp_wait_rest_token 𝒱₀ ER (sched I) (c : Thread nD τ) none (κ := κ (barCell c)) (sm := barS)
      (wpE_semWait_eq 𝒱₀ (c : Thread nD τ) none Set.univ) (Set.mem_univ _) () (O := tal 1 (toY c) order + tal 3 (toX c) order) (W := W) (R := 0) (m := 0) (T := ∅)
      (by rw [expect_bar]; decide)) $$ [HcB HO HatB]
  · isplitr; · iapply (inv_bar I κ c); iexact Hinv
    isplitl [HcB]; · iexact HcB
    isplitl [HO]; · iexact HO
    isplitr; · iapply (mayWait_bar c); iexact Hlev
    iexact HatB
  iintro ⟨HO, HatB, -, Hpay⟩
  ihave Hpay := (show _ ⊢ iprop(barPayY (F := F) c ∗ barPayX c) from Entails.of_eq (rest_bar I c)) $$ Hpay
  unfold barPayY barPayX
  icases Hpay with ⟨⟨⟨%fY, HbY⟩, #HpY⟩, ⟨%fX, HoX⟩, #HpX⟩
  icases (p_split I c).1 $$ Hp with ⟨HpL, HpS, HpR⟩
  ihave HbY := ((Entails.of_eq (b_split (toY c) fY)).trans (some_b (toY c) fY)) $$ HbY
  ihave Ho := ((Entails.of_eq (half_split c c fo)).trans (some_o c c fo)) $$ Ho
  ihave HoX := ((Entails.of_eq (half_split (toX c) c fX)).trans (some_o (toX c) c fX)) $$ HoX
  ihave #Hctx : ctx I κ c $$ []
  · unfold ctx peer0
    isplitr; · iexact Hinv
    isplitr; · iexact Hown
    isplitr; · iexact HpY
    isplitr; · iexact HpX
    iexact Hlev
  iapply (wp_fupd frame (wpE (defs₀ (F := F)) 𝒱₀ (c : Thread nD τ) none) (E := Set.univ) _ Q)
  iapply (passes_run I κ c (fun a => iprop(|={Set.univ}=> Q a))) $$ [HatB Ht0 Ht1 Ht2 Ht3 Hc1 Hc3 Hs0 Hs1 Hs2 Hs3 HpL HpS HpR Hr Hg HbY Ho HoX HO]
  · isplitr; · iexact Hctx
    unfold passIn
    isplitl [HatB]; · iexact HatB
    isplitl [Ht0 Ht1 Ht2 Ht3]
    · isplitl [Ht0]; · iexact Ht0
      isplitl [Ht1]; · iexact Ht1
      isplitl [Ht2] <;> iassumption
    isplitl [Hc1 Hc3]; · isplitl [Hc1] <;> iassumption
    isplitl [Hs0 Hs1 Hs2 Hs3]
    · isplitl [Hs0]; · iexact Hs0
      isplitl [Hs1]; · iexact Hs1
      isplitl [Hs2] <;> iassumption
    isplitl [HpL HpS HpR]
    · isplitl [HpL]; · iexact HpL
      isplitl [HpS] <;> iassumption
    isplitl [Hr Hg]; · isplitl [Hr] <;> iassumption
    isplitl [HbY]; · iexact HbY
    isplitl [Ho HoX]; · isplitl [Ho] <;> iassumption
    iexists _; iexact HO
  iintro Hd
  imod (finish I κ c) $$ [Hd] with Hd
  · isplitr; · iexact Hinv
    iexact Hd
  imodintro
  iapply Hk
  iexact Hd

end Cert.KernelIdeal.Chunked
-- ==== Proof.Region.lean ====
/- The kernel's region: what the pipeline stages, what the body keeps between its start and its end, and the body's obligation. -/
module

public import proofs.«01_k».proof.Proof.Body
public import proofs.«01_k».proof.Proof.Gen.KernelIdeal.Frame
public import Idealize.ShloMosaic.Lib.Pipeline.RegionTalk

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-- The inputs as the pipeline stages them. -/
def staged : Inp F := ⟨fun c => iblk m c 0 t0_0, fun c => iblk m c 1 t0_0, fun c => iblk m c 2 t0_0⟩

/-- The receive buffer, at contents not chosen. -/
def slot (c : Dev nD) : sProp 𝕄 := iprop(∃ f : Buf (Elt F) ((c : Thread nD τ).loc cc0_scratch0), ((c : Thread nD τ).loc cc0_scratch0) ↦{fullShare} f)

/-- What the exchange brings to the body. -/
def enter (c : Dev nD) : sProp 𝕄 := iprop((∃ κ, known (staged m) κ c) ∗ linear c ∗ opened c)

/-- The exchange's semaphores of a device, by array and chunk. -/
theorem ownSems_eq (c : Dev nD) : (bigSep Finset.univ fun jk : Fin 4 × Fin nC => (semVal (cell jk.1 jk.2 c) 0 : sProp 𝕄)) ⊢ Pipeline.ownSems0 osem c :=
  Entails.of_eq rfl

/-- What is kept before the body's one point. -/
def Φ₀ (c : Dev nD) : sProp 𝕄 := iprop(enter m c ∗ slot c ∗ ∃ r, prngReg c r)
/-- What is kept after it. -/
def Φ₁ (c : Dev nD) : sProp 𝕄 := iprop(semVal (barCell c) 0 ∗ Pipeline.ownSems0 osem c ∗ slot c ∗ ∃ r, prngReg c r)

/-- The proof data: the inputs stay staged, the result is the exchange's. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outV (staged m) c
  Φ t := if t.val = 0 then Φ₀ m c else Φ₁ c
  q _ := fullShare
  owed t := if t.val = 0 then owed₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat m c

/-- An input's staging buffer holds its block when the body starts. -/
theorem before_0 (c : Dev nD) (d) : (dat m c).before 0 t0_0 d = (staged m).p c :=
  ((dat m c).before_in_eq_fetched 0 rfl (fun _ => rfl) (fun _ _ _ => rfl) (fun _ => rfl) t0_0 d).trans rfl
theorem before_1 (c : Dev nD) (d) : (dat m c).before 1 t0_0 d = (staged m).r c :=
  ((dat m c).before_in_eq_fetched 1 rfl (fun _ => rfl) (fun _ _ _ => rfl) (fun _ => rfl) t0_0 d).trans rfl
theorem before_2 (c : Dev nD) (d) : (dat m c).before 2 t0_0 d = (staged m).g c :=
  ((dat m c).before_in_eq_fetched 2 rfl (fun _ => rfl) (fun _ _ _ => rfl) (fun _ => rfl) t0_0 d).trans rfl

theorem owed_first (c : Dev nD) : (dat (F := F) m c).owed t0_0.castSucc = owed₀ c := rfl
theorem owed_last (c : Dev nD) : (dat (F := F) m c).owed t0_0.succ = 0 := rfl

theorem owes_intro (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound; rw [h]
  iintro HO; iexists W; isplitr; · ipureintro; exact fun _ _ => Or.inl trivial
  iexact HO
theorem owes_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-- A whole staging buffer. -/
abbrev stg (c : Dev nD) (b : Ref sig .tc) (f : b.ty.Contents (Elt F)) : sProp 𝕄 := owns (c : Thread nD τ) (Memref.whole b) fullShare f

/-- What the pipeline hands the body. -/
def bodyPre (c : Dev nD) : sProp 𝕄 :=
  iprop(Φ₀ m c ∗ (dat m c).owesAt () t0_0.castSucc ∗ (∃ d, stg c cc0_stg0_0 ((dat m c).before (0 : Fin 4) t0_0 d)) ∗ (∃ d, stg c cc0_stg1_0 ((dat m c).before (1 : Fin 4) t0_0 d))
    ∗ (∃ d, stg c cc0_stg2_0 ((dat m c).before (2 : Fin 4) t0_0 d)) ∗ (∃ d, stg c cc0_stg3_0 ((dat m c).before (3 : Fin 4) t0_0 d)))
/-- What it takes back. -/
def bodyPost (c : Dev nD) : sProp 𝕄 :=
  iprop(Φ₁ c ∗ (dat m c).owesAt () t0_0.succ ∗ stg c cc0_stg0_0 ((staged m).p c) ∗ stg c cc0_stg1_0 ((staged m).r c)
    ∗ stg c cc0_stg2_0 ((staged m).g c) ∗ stg c cc0_stg3_0 (outV (staged m) c))

theorem body_sound (c : Dev nD) :
    bodyPre m c ⊢ run c (body pM rM gM oM bM cc0_scratch1 cc0_scratch2 cc0_scratch3 cc0_scratch4) fun _ => bodyPost m c := by
  unfold bodyPre Φ₀ enter slot
  simp only [owns_whole]
  iintro ⟨⟨⟨⟨%κ, #Hk⟩, Hl, Ho⟩, ⟨%fb, Hb⟩, Hreg⟩, HO, ⟨%d0, Hp⟩, ⟨%d1, Hr⟩, ⟨%d2, Hg⟩, ⟨%d3, Hout⟩⟩
  rw [before_0, before_1, before_2]
  icases (owes_elim m c t0_0.castSucc (owed₀ c) (owed_first m c)) $$ HO with ⟨%W, HO⟩
  iapply (body_run (staged m) κ c W ((dat m c).before 3 t0_0 d3) fb (fun _ => bodyPost m c)) $$ [Hl Ho Hb HO Hp Hr Hg Hout]
  · isplitr; · iexact Hk
    unfold before inputs
    isplitl [Hl]; · iexact Hl
    isplitl [Ho]; · iexact Ho
    isplitl [Hp Hr Hg]
    · isplitl [Hp]; · iexact Hp
      isplitl [Hr]; · iexact Hr
      iexact Hg
    isplitl [Hout]; · iexact Hout
    isplitl [Hb]; · iexact Hb
    iexact HO
  unfold after inputs bodyPost Φ₁ slot
  simp only [owns_whole]
  iintro ⟨⟨HzB, Hz⟩, ⟨Hp, Hr, Hg⟩, Hout, ⟨%fb', Hb⟩, ⟨%W', HO⟩⟩
  isplitl [HzB Hz Hb Hreg]
  · isplitl [HzB]; · iexact HzB
    isplitl [Hz]; · iapply (ownSems_eq c); iexact Hz
    isplitl [Hb]; · iexists fb'; iexact Hb
    iexact Hreg
  isplitl [HO]; · iapply (owes_intro m c t0_0.succ 0 (owed_last m c) W'); iexact HO
  isplitl [Hp]; · iexact Hp
  isplitl [Hr]; · iexact Hr
  isplitl [Hg]; · iexact Hg
  iexact Hout

/-- The printed body, on the memrefs the pipeline calls it with. -/
theorem body_printed : cc0_body (F := F) pM (Memref.isWhole_whole _) rM (Memref.isWhole_whole _) gM (Memref.isWhole_whole _) oM (Memref.isWhole_whole _) bM (Memref.isWhole_whole _)
      cc0_scratch1 cc0_scratch2 cc0_scratch3 cc0_scratch4
    = body pM rM gM oM bM cc0_scratch1 cc0_scratch2 cc0_scratch3 cc0_scratch4 := by
  rw [cc0_body_eq_skeleton, body_eq]

/-- The call's row of the definition table, at the one point. -/
theorem body_called : defs₀ (F := F) .tc cfg0.body (cfg0.bodyArgs t0_0 (cfg0.slots t0_0))
    = body pM rM gM oM bM cc0_scratch1 cc0_scratch2 cc0_scratch3 cc0_scratch4 :=
  (show defs₀ (F := F) .tc cfg0.body (cfg0.bodyArgs t0_0 (cfg0.slots t0_0)) = bodyAt0 t0_0 from rfl).trans body_printed

/-- The library's body obligation. -/
theorem body_obligation (c : Dev nD) : BodyObligation (dat (F := F) m c) (defs₀ (F := F)) 𝒱₀ () Set.univ := fun t => by
  obtain rfl := fin_N0 t
  rw [bigSep_W0, bigSep_W0, body_called]
  have h := body_sound m c
  unfold run at h
  generalize body (F := F) pM rM gM oM bM cc0_scratch1 cc0_scratch2 cc0_scratch3 cc0_scratch4 = e at h ⊢
  unfold bodyPre bodyPost at h
  exact h

end Cert.KernelIdeal.Chunked
-- ==== Proof.Deal.lean ====
/- What the launch deals the devices: the cells funded, each duty's token to the device that discharges it, and each device's launch credit. -/
module

public import proofs.«01_k».proof.Proof.Region

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The cells and the tokens, as sets -/

theorem cell_inj {x y : Dev nD × (Fin 4 × Fin nC)} (h : cell x.2.1 x.2.2 x.1 = cell y.2.1 y.2.2 y.1) : x = y :=
  Prod.ext (congrArg (fun g : GSem nD τ sig => g.1.1) h) (osem_inj (congrArg Prod.snd h))
theorem bar_inj {c d : Dev nD} (h : barCell c = barCell d) : c = d := congrArg (fun g : GSem nD τ sig => g.1.1) h
theorem cell_ne_bar (j : Fin 4) (k : Fin nC) (c d : Dev nD) : cell j k c ≠ barCell d := fun h => osem_ne_bar (j, k) (congrArg Prod.snd h)

def barEmb : Dev nD ↪ GSem nD τ sig := ⟨fun c => barCell c, fun _ _ => bar_inj⟩
def cellEmb : Dev nD × (Fin 4 × Fin nC) ↪ GSem nD τ sig := ⟨fun x => cell x.2.1 x.2.2 x.1, fun _ _ => cell_inj⟩
def barDuty : Dev nD × Bool ↪ GSem nD τ sig × ℕ × Bool :=
  ⟨fun x => (barCell x.1, 0, x.2), fun _ _ h => Prod.ext (bar_inj (congrArg (fun t => t.1) h)) (congrArg (fun t => t.2.2) h)⟩
def cellDuty : Dev nD × (Fin 4 × Fin nC) ↪ GSem nD τ sig × ℕ × Bool :=
  ⟨fun x => (cell x.2.1 x.2.2 x.1, 0, false), fun _ _ h => cell_inj (congrArg (fun t => t.1) h)⟩

/-- The handshake cells, in use from the launch on. -/
abbrev barCells : Finset (GSem nD τ sig) := Finset.univ.map barEmb
/-- The copy cells, in use from the kernel's start on. -/
abbrev copyCells : Finset (GSem nD τ sig) := Finset.univ.map cellEmb
/-- The duties. -/
abbrev duties₀ : Finset (GSem nD τ sig × ℕ × Bool) := Finset.univ.map barDuty ∪ Finset.univ.map cellDuty

theorem disjoint_cells : Disjoint (barCells : Finset (GSem nD τ sig)) copyCells := Finset.disjoint_left.mpr fun g h₁ h₂ => by
  obtain ⟨c, -, rfl⟩ := Finset.mem_map.mp h₁
  obtain ⟨x, -, h⟩ := Finset.mem_map.mp h₂
  exact cell_ne_bar _ _ _ _ h

theorem disjoint_duties : Disjoint (Finset.univ.map barDuty : Finset (GSem nD τ sig × ℕ × Bool)) (Finset.univ.map cellDuty) :=
  Finset.disjoint_left.mpr fun g h₁ h₂ => by
    obtain ⟨c, -, rfl⟩ := Finset.mem_map.mp h₁
    obtain ⟨x, -, h⟩ := Finset.mem_map.mp h₂
    exact cell_ne_bar _ _ _ _ (congrArg (fun t => t.1) h)

/-! ## The tokens, dealt to those who discharge the duties -/

/-- A device's tokens of its own cells' duties. -/
def ownDuties (c : Dev nD) : sProp 𝕄 :=
  iprop((dutyTok ER (barCell c) 0 false ∗ dutyTok ER (barCell c) 0 true) ∗ toks 0 c ∗ toks 1 c ∗ toks 2 c ∗ toks 3 c)
/-- The tokens of the duties a device discharges. -/
def myDuties (c : Dev nD) : sProp 𝕄 :=
  iprop((dutyTok ER (barCell (toY c)) 0 false ∗ dutyTok ER (barCell (toX c)) 0 true) ∗ toks 0 c ∗ toks 1 (toY c) ∗ toks 2 c ∗ toks 3 (toX c))

theorem bigSep_bool' (Φ : Bool → sProp 𝕄) : bigSep Finset.univ Φ = iprop(Φ false ∗ Φ true) :=
  bigSep_univ_eq_bigSepL [false, true] (by decide) (by decide) Φ

theorem duties_by_device : bigSep duties₀ (fun x => (dutyTok ER x.1 x.2.1 x.2.2 : sProp 𝕄)) = bigSep Finset.univ fun c : Dev nD => ownDuties c := by
  rw [bigSep_union disjoint_duties, bigSep_map, bigSep_map, bigSep_univ_prod, bigSep_univ_prod]
  refine (bigSep_sep' _ _ _).symm.trans (bigSep_congr fun c _ => ?_)
  rw [bigSep_bool', arrays_eq]
  unfold ownDuties toks
  rfl

theorem duties_dealt : (bigSep Finset.univ fun c : Dev nD => (ownDuties c : sProp 𝕄)) = bigSep Finset.univ fun c : Dev nD => myDuties c := by
  unfold ownDuties myDuties
  simp only [bigSep_sep']
  rw [bigSep_univ_equiv swapY fun c : Dev nD => (dutyTok ER (barCell c) 0 false : sProp 𝕄),
    bigSep_univ_equiv swapX fun c : Dev nD => (dutyTok ER (barCell c) 0 true : sProp 𝕄),
    bigSep_univ_equiv swapY fun c : Dev nD => (toks 1 c : sProp 𝕄),
    bigSep_univ_equiv swapX fun c : Dev nD => (toks 3 c : sProp 𝕄)]
  rfl

/-! ## The launch credit -/

theorem tal_same (j : Fin 4) (d : Dev nD) (k : Fin nC) : ∀ l, tal j d l (cell j k d) () = l.count k * N k
  | [] => by rw [show tal j d [] = 0 from rfl, List.count_nil, Nat.zero_mul]; rfl
  | k' :: l => by
    rw [tal_cons, Pi.add_apply, Finsupp.add_apply, tal_same j d k l, tallyAt_apply, List.count_cons]
    by_cases h : k' = k
    · subst h; rw [if_pos ⟨rfl, rfl⟩, if_pos (beq_self_eq_true _), Nat.add_mul, Nat.one_mul]
    · rw [if_neg fun e => h (congrArg (fun x : Dev nD × (Fin 4 × Fin nC) => x.2.2) (cell_inj (x := (d, (j, k))) (y := (d, (j, k'))) e.1)).symm,
        if_neg (by simpa using h), Nat.add_zero, Nat.add_zero]

theorem tal_other (j : Fin 4) (d : Dev nD) (l : List (Fin nC)) (g : GSem nD τ sig) (h : ∀ k, g ≠ cell j k d) : tal j d l g () = 0 :=
  Nat.eq_zero_of_not_pos fun hp => by obtain ⟨k, -, e⟩ := tal_pos hp; exact h k e

theorem count_order (k : Fin nC) : order.count k = 1 := by revert k; decide

theorem tal_at (j j' : Fin 4) (d c : Dev nD) (k : Fin nC) : tal j d order (cell j' k c) () = if j' = j ∧ c = d then N k else 0 := by
  split
  · next h => obtain ⟨rfl, rfl⟩ := h; rw [tal_same, count_order, Nat.one_mul]
  · next h =>
    refine tal_other j d order _ fun k' e => ?_
    have := cell_inj (x := (c, (j', k))) (y := (d, (j, k'))) e
    exact h ⟨congrArg (fun x : Dev nD × (Fin 4 × Fin nC) => x.2.1) this, congrArg (fun x : Dev nD × (Fin 4 × Fin nC) => x.1) this⟩

/-- What device `d` owes a copy cell. -/
theorem owed_cell (d : Dev nD) (j : Fin 4) (k : Fin nC) (c : Dev nD) :
    owed₀ d (cell j k c) () = (if j = 1 ∧ c = toY d then N k else 0) + (if j = 3 ∧ c = toX d then N k else 0) := by
  unfold owed₀
  simp only [Pi.add_apply, Finsupp.add_apply]
  rw [tal_at, tal_at, tallyAt_ne_cell (cell_ne_bar _ _ _ _), tallyAt_ne_cell (cell_ne_bar _ _ _ _)]; rfl

/-- What device `d` owes a handshake cell. -/
theorem owed_bar (d c : Dev nD) : owed₀ d (barCell c) () = (if d = toX c then 1 else 0) + (if d = toY c then 1 else 0) := by
  unfold owed₀
  simp only [Pi.add_apply, Finsupp.add_apply]
  rw [tal_other 1 _ _ _ fun k => (cell_ne_bar _ _ _ _).symm, tal_other 3 _ _ _ fun k => (cell_ne_bar _ _ _ _).symm, tallyAt_apply, tallyAt_apply,
    Nat.zero_add]
  refine congrArg₂ (· + ·) (if_congr ⟨fun h => ?_, fun h => ?_⟩ rfl rfl) (if_congr ⟨fun h => ?_, fun h => ?_⟩ rfl rfl)
  · rw [bar_inj h.1, toX_toX]
  · rw [h, toX_toX]; exact ⟨rfl, rfl⟩
  · rw [bar_inj h.1, toY_toY]
  · rw [h, toY_toY]; exact ⟨rfl, rfl⟩

theorem credit_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (toX c) fun _ => 1, Finset.sum_ite_eq' Finset.univ (toY c) fun _ => 1, if_pos (Finset.mem_univ _), if_pos (Finset.mem_univ _)]

theorem credit_y (c : Dev nD) (k : Fin nC) :
    tallyOn (cell 1 k c) (launchCredit (Pipeline.owing owed₀) 0 (cell 1 k c)) = (tallyAt (cell 1 k c) () (N k) : CellTallies nD τ sig Unit) := by
  unfold tallyAt; refine congrArg _ (Finsupp.ext fun u => ?_); cases u
  rw [Pipeline.launchCredit_owing, Finsupp.single_eq_same, Finset.sum_congr rfl fun d _ => (owed_cell d 1 k c).trans
      (show _ = if d = toY c then N k else 0 from by
        rw [if_neg (show ¬((1 : Fin 4) = 3 ∧ c = toX d) from fun h => absurd h.1 (by decide)), Nat.add_zero]
        exact if_congr ⟨fun h => by rw [h.2, toY_toY], fun h => ⟨rfl, by rw [h, toY_toY]⟩⟩ rfl rfl),
    Finset.sum_ite_eq' Finset.univ (toY c) fun _ => N k, if_pos (Finset.mem_univ _)]

theorem credit_x (c : Dev nD) (k : Fin nC) :
    tallyOn (cell 3 k c) (launchCredit (Pipeline.owing owed₀) 0 (cell 3 k c)) = (tallyAt (cell 3 k c) () (N k) : CellTallies nD τ sig Unit) := by
  unfold tallyAt; refine congrArg _ (Finsupp.ext fun u => ?_); cases u
  rw [Pipeline.launchCredit_owing, Finsupp.single_eq_same, Finset.sum_congr rfl fun d _ => (owed_cell d 3 k c).trans
      (show _ = if d = toX c then N k else 0 from by
        rw [if_neg (show ¬((3 : Fin 4) = 1 ∧ c = toY d) from fun h => absurd h.1 (by decide)), Nat.zero_add]
        exact if_congr ⟨fun h => by rw [h.2, toX_toX], fun h => ⟨rfl, by rw [h, toX_toX]⟩⟩ rfl rfl),
    Finset.sum_ite_eq' Finset.univ (toX c) fun _ => N k, if_pos (Finset.mem_univ _)]

def osemEmb : Fin 4 × Fin nC ↪ SemLoc sig := ⟨osem, osem_inj⟩

/-- A device's launch credit: two units at its handshake, and every chunk due to it along `y` and along `x`. -/
theorem launch_credit (c : Dev nD) : (Pipeline.launchCred owed₀ c : sProp 𝕄) ⊢ iprop(cred (tallyAt (barCell c) () 2) ∗ creds 1 c ∗ creds 3 c) := by
  unfold Pipeline.launchCred
  rw [bigSep_univ_at _ barS, credit_bar]
  refine sep_mono_right ?_
  refine (bigSep_subset (t := Finset.univ.map osemEmb) fun sm h => ?_).trans ?_
  · obtain ⟨jk, -, rfl⟩ := Finset.mem_map.mp h
    exact Finset.mem_erase.mpr ⟨osem_ne_bar jk, Finset.mem_univ _⟩
  rw [bigSep_map, arrays_eq]
  show iprop(_ ∗ _ ∗ _ ∗ _) ⊢ (iprop(creds 1 c ∗ creds 3 c) : sProp 𝕄)
  iintro ⟨-, H1, -, H3⟩
  isplitl [H1]
  · iapply (show (bigSep Finset.univ fun k => cred (tallyOn (cell 1 k c) (launchCredit (Pipeline.owing owed₀) 0 (cell 1 k c)))) ⊢ (creds 1 c : sProp 𝕄) from
      Entails.of_eq (bigSep_congr fun k _ => by rw [credit_y])); iexact H1
  · iapply (show (bigSep Finset.univ fun k => cred (tallyOn (cell 3 k c) (launchCredit (Pipeline.owing owed₀) 0 (cell 3 k c)))) ⊢ (creds 3 c : sProp 𝕄) from
      Entails.of_eq (bigSep_congr fun k _ => by rw [credit_x])); iexact H3

end Cert.KernelIdeal.Chunked
-- ==== Proof.Launch.lean ====
/- The program as a launch: the host's reshape, then the kernel's region; and the run of the whole on the four devices. -/
module

public import proofs.«01_k».proof.Proof.Deal
public import Idealize.ShloMosaic.Lib.Quiescent

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What the buffers hold: at the launch, before the kernel, after it -/

def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v2) (outV (staged m) c)

theorem V₂_result (c : Dev nD) : V₂ m c (Proc.devRef .tc main_v2) = outV (staged m) c := Function.update_self ..
theorem V₂_other (c : Dev nD) {b : DevRef τ sig} (h : b ≠ Proc.devRef .tc main_v2) : V₂ m c b = V₁ m c b := Function.update_of_ne h ..

/-- The pipeline leaves the exchange's result in the result array. -/
theorem arr_out (c : Dev nD) : (dat m c).arrAt 3 cfg0.N = outV (staged m) c := by
  refine (dat m c).arrAt_eq_of_after_last 3 t0_0 (by decide +kernel) _ fun j => ?_
  blk_simp
  rfl

/-! ## The region's edges -/

/-- A device's rights to open its copy cells. -/
def dormant (c : Dev nD) : sProp 𝕄 := bigSep Finset.univ fun jk : Fin 4 × Fin nC => openTok ER (cell jk.1 jk.2 c)
/-- What every device may consult from the launch on. -/
def records (κ : GSem nD τ sig → ℕ) : sProp 𝕄 := iprop(invs (staged m) κ ∗ bigSep Finset.univ fun c : Dev nD => reached ER (barCell c) 0)
instance records_persistent (κ : GSem nD τ sig → ℕ) : BI.Persistent (records m κ) := by unfold records; infer_instance

/-- What a device brings to the region. -/
def Tk (c : Dev nD) : sProp 𝕄 := iprop((∃ κ, records m κ) ∗ dormant c ∗ linear c)
/-- What it takes away. -/
def Yk (c : Dev nD) : sProp 𝕄 := semVal (barCell c) 0

theorem reached_at (c : Dev nD) : (bigSep Finset.univ fun c : Dev nD => (reached ER (barCell c) 0 : sProp 𝕄)) ⊢ reached ER (barCell c) 0 :=
  bigSep_elim (i := c) (Φ := fun c : Dev nD => (reached ER (barCell c) 0 : sProp 𝕄)) (Finset.mem_univ _)

theorem region_open (c : Dev nD) : iprop(Tk m c ∗ Pipeline.ownSems0 osem c ∗ levAts L lv) ⊢ (|={Set.univ}=> enter m c : sProp 𝕄) := by
  unfold Tk records dormant enter
  iintro ⟨⟨⟨%κ, #HI, #HR⟩, Hd, Hl⟩, Hs, #Hlev⟩
  ihave Hd' := (bigSep_with_persistent (R := invs (staged m) κ) (Φ := fun jk : Fin 4 × Fin nC => openTok ER (cell jk.1 jk.2 c))
    (Ψ := fun jk => iprop(cellInv ER (sched (staged m)) (κ (cell jk.1 jk.2 c)) (cell jk.1 jk.2 c) ∗ openTok ER (cell jk.1 jk.2 c)))
    fun jk _ => sep_mono_left (inv_cell (staged m) κ jk.1 jk.2 c)) $$ [Hd]
  · isplitr; · iexact HI
    iexact Hd
  imod (Rounds.cells_open ER (sched (staged m)) Finset.univ (fun jk : Fin 4 × Fin nC => cell jk.1 jk.2 c) (fun jk => κ (cell jk.1 jk.2 c))
    fun _ _ => Set.mem_univ _) $$ [Hd' Hs] with Ho
  · isplitl [Hd']; · iexact Hd'
    iapply (show Pipeline.ownSems0 osem c ⊢ (bigSep Finset.univ fun jk : Fin 4 × Fin nC => semVal (cell jk.1 jk.2 c) 0 : sProp 𝕄) from Entails.of_eq rfl)
    iexact Hs
  imodintro
  isplitr
  · iexists κ; unfold known
    isplitr; · iexact HI
    isplitr; · iexact Hlev
    isplitr; · iapply (reached_at (F := F) (toY c)); iexact HR
    iapply (reached_at (F := F) (toX c)); iexact HR
  isplitl [Hl]; · iexact Hl
  unfold opened; iexact Ho

theorem held_none (c : Dev nD) (W : Valuation τ sig (Elt F)) : (StableHlo.held (c.tc : Thread nD τ) ∅ W : sProp 𝕄) = BI.emp := by
  unfold StableHlo.held; exact BI.bigSep_empty

theorem region_in (c : Dev nD) :
    iprop(Pipeline.scopedRest (Pipeline.pin (pcfgs (F := F)) adm 0).spec c ∗ (∃ r, prngReg c r) ∗ StableHlo.held (c.tc : Thread nD τ) ∅ (V₁ m c) ∗ enter m c)
      ⊢ (pdats m 0 c).Φ 0 := by
  rw [show (pdats m 0 c).Φ 0 = Φ₀ m c from rfl, show Pipeline.scopedRest (Pipeline.pin (pcfgs (F := F)) adm 0).spec c = _ from scopedRest0_eq c]
  unfold Φ₀ slot
  iintro ⟨Hs, Hp, -, HX⟩
  isplitl [HX]; · iexact HX
  isplitl [Hs] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ Yk c) := by
  rw [show (pdats m 0 c).Φ (Fin.last (Pipeline.pin (pcfgs (F := F)) adm 0).N) = Φ₁ c from rfl,
    show Pipeline.scopedRest (Pipeline.pin (pcfgs (F := F)) adm 0).spec c = _ from scopedRest0_eq c, held_none]
  unfold Φ₁ slot Yk
  iintro ⟨Hb, Ho, Hs, Hp⟩
  isplitl [Hs]; · iexact Hs
  isplitl [Hp]; · iexact Hp
  isplitr; · iempintro
  isplitl [Ho] <;> iassumption

theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  rw [show (pdats m 0 c).owed t = if t.val = 0 then owed₀ c else 0 from rfl] at h
  split at h
  · unfold owed₀ at h
    simp only [Pi.add_apply, Finsupp.add_apply] at h
    rcases Nat.add_pos_iff_pos_or_pos.mp h with h | h
    · rcases Nat.add_pos_iff_pos_or_pos.mp h with h | h
      · rcases Nat.add_pos_iff_pos_or_pos.mp h with h | h
        · obtain ⟨k, -, rfl⟩ := tal_pos h
          exact ⟨by rw [L_tc]; exact Finset.mem_singleton_self _, by rw [lv_cell]; decide⟩
        · obtain ⟨k, -, rfl⟩ := tal_pos h
          exact ⟨by rw [L_tc]; exact Finset.mem_singleton_self _, by rw [lv_cell]; decide⟩
      · rw [tallyAt_apply] at h
        split at h
        · next e => rw [e.1]; exact ⟨by rw [L_tc]; exact Finset.mem_singleton_self _, show 0 < lv (barCell _) () by rw [lv_bar]; decide⟩
        · exact absurd h (Nat.lt_irrefl 0)
    · rw [tallyAt_apply] at h
      split at h
      · next e => rw [e.1]; exact ⟨by rw [L_tc]; exact Finset.mem_singleton_self _, show 0 < lv (barCell _) () by rw [lv_bar]; decide⟩
      · exact absurd h (Nat.lt_irrefl 0)
  · exact absurd h (Nat.lt_irrefl 0)

theorem stage_level : ∀ (c : Dev nD) (w : Fin 4) (s : Fin (spec0 w).nbuf), lv ((c : Thread nD τ), .dma ((spec0 w).sem s)) () ≤ 0 := by decide

theorem share_full (c : Dev nD) (w : Fin (Pipeline.pin (pcfgs (F := F)) adm 0).W) : (pdats m 0 c).share w = fullShare := by
  unfold Dat.share; split <;> rfl

/-- The buffers no window names. -/
abbrev rest : Finset (DevRef τ sig) := ucRefs τ sig \ Pipeline.arrRefs spec0

theorem v2_mem : Proc.devRef .tc main_v2 ∈ Pipeline.arrRefs (τ := τ) spec0 :=
  Finset.mem_map_of_mem _ (Finset.mem_image_of_mem (Pipeline.arrRef spec0) (Finset.mem_univ (3 : Fin 4)))

theorem arr_end (c : Dev nD) : ∀ w : Fin 4, (dat m c).arrAt w cfg0.N = V₂ m c (Proc.devRef .tc (Pipeline.arrRef spec0 w))
  | 0 => ((dat m c).arrAt_in 0 rfl _).trans (V₂_other m c (b := Proc.devRef .tc main_arg0) (by decide)).symm
  | 1 => ((dat m c).arrAt_in 1 rfl _).trans (V₂_other m c (b := Proc.devRef .tc main_arg1) (by decide)).symm
  | 2 => ((dat m c).arrAt_in 2 rfl _).trans (V₂_other m c (b := Proc.devRef .tc main_v1) (by decide)).symm
  | 3 => (arr_out m c).trans (V₂_result m c).symm

set_option backward.isDefEq.respectTransparency.types false in
/-- The kernel's region: entered owing everything, left owing nothing. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ rest (Finset.empty_subset _) launch0.toP rfl (fun c => (body_obligation m c).loose)
    (fun _ => 0) owed₀ (fun c => (zero_add (owed₀ c)).symm) (fun _ => rfl) (fun _ => rfl) (share_full m)
    (V₁ m) (V₂ m) (fun c b hb => V₂_other m c fun e => (Finset.mem_sdiff.mp (Finset.mem_sdiff.mp hb).1).2 (e ▸ v2_mem))
    (Tk m) Yk (enter m) Yk (region_open m) (region_in m) (region_out m)
    (fun c => by iintro H; imodintro; iexact H)
    (fun _ => 0)
    ⟨fun c _ _ => by rw [L_tc]; exact Finset.mem_singleton_self _, stage_level, cut m⟩
    (fun _ => iprop(emp))
    (fun c w => (show (dat m c).arrAt w 0 = (dat m c).A w from rfl)) (arr_end m)

end Cert.KernelIdeal.Chunked
-- ==== Proof.Run.lean ====
/- The run of the whole program on the four devices, over any values. -/
module

public import proofs.«01_k».proof.Proof.Launch

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The segments, joined -/

/-- What rides beside the buffers up to the region. -/
def beside (c : Dev nD) : sProp 𝕄 := iprop(Tk m c ∗ (∃ r, prngReg c r) ∗ ∃ W, owes (c : Thread nD τ) (owed₀ c) W)

/-- The host's reshape of the scale. -/
def seg0 : Pipeline.HostSeg (Name := ℕ) (U := UU) (pcfgs (F := F)) defs₀ 𝒱₀ L lv :=
  Pipeline.HostSeg.ofOps _ _ _ _ _ (ucRefs τ sig) hostOps0
    (fun op h => Pipeline.sub_ucRefs op (List.forall_iff_forall_mem.mp hostOps0_sub op h))
    (fun op h => List.forall_iff_forall_mem.mp hostOps0_fresh op h) (V₀ m) (beside m)

theorem arr_sub : Pipeline.arrRefs (τ := τ) spec0 ⊆ ucRefs τ sig := Pipeline.arrRefs_sub_ucRefs spec0 (by decide)

theorem region_pre (c : Dev nD) : iprop(StableHlo.held (c.tc : Thread nD τ) (ucRefs τ sig) (V₁ m c) ∗ beside m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) rest (V₁ m c) ∗ emp) ∗ Tk m c ∗ ∃ Wd, owes (c : Thread nD τ) (0 + owed₀ c) Wd)
  rw [StableHlo.held_sub_split (c.tc : Thread nD τ) arr_sub (V₁ m c), zero_add]
  unfold beside
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What a device ends with. -/
def last (c : Dev nD) : sProp 𝕄 := iprop(StableHlo.held (c.tc : Thread nD τ) (ucRefs τ sig) (V₂ m c) ∗ semVal (barCell c) 0)

theorem region_post (c : Dev nD) : (reg0 m).post c ⊢ iprop(last m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  unfold last Yk
  rw [StableHlo.held_sub_split (c.tc : Thread nD τ) arr_sub (V₂ m c)]
  iintro ⟨Ha, -, ⟨Hr, -⟩, Hb, HO⟩
  isplitr [HO]
  · isplitl [Ha Hr]
    · isplitl [Ha] <;> iassumption
    iexact Hb
  iexact HO

def segs : List (Pipeline.Seg (pcfgs (F := F)) adm (pdats m) () defs₀ 𝒱₀ L lv) := [.host (seg0 m), .region (reg0 m)]

theorem main_eq (c : Dev nD) : main (F := F) c = Pipeline.Seg.run (segs m) := main_segs adm (pdats m) () 𝒱₀ L lv (seg0 m) (reg0 m) rfl c

/-! ## The launch -/

/-- The ghost state the launch starts from. -/
def u₀ : UU :=
  (initOf (Pipeline.cells (Pipeline.pin (pcfgs (F := F)) adm) cellOf_inj) (Pipeline.launchToks (Pipeline.pin (pcfgs (F := F)) adm) cellOf_inj),
    launchOf barCells copyCells duties₀)

/-- The exchange's part of it, held by the first device until it is dealt. -/
def seed (c : Dev nD) : sProp 𝕄 := if c = 0 then BI.own (ER (launchOf barCells copyCells duties₀)) else iprop(emp)

theorem seed_all : bigSep Finset.univ (seed (F := F)) = BI.own (ER (launchOf barCells copyCells duties₀)) := by
  rw [bigSep_univ_at _ (0 : Dev nD), bigSep_congr (s := Finset.univ.erase (0 : Dev nD)) (Ψ := fun _ => (BI.emp : sProp 𝕄))
      fun c hc => by unfold seed; rw [if_neg (Finset.ne_of_mem_erase hc)]; rfl, BI.bigSep_emp_const]
  unfold seed; rw [if_pos rfl]
  exact BI.equiv_iff.mp sep_emp

/-- What a device holds once everything is dealt. -/
def first (c : Dev nD) : sProp 𝕄 := iprop(StableHlo.held (c.tc : Thread nD τ) (ucRefs τ sig) (V₀ m c) ∗ beside m c)

/-- What a device has from the launch itself, its ghost state apart. -/
def holdings (c : Dev nD) : sProp 𝕄 :=
  iprop(StableHlo.held (c.tc : Thread nD τ) (ucRefs τ sig) (V₀ m c) ∗ (cred (tallyAt (barCell c) () 2) ∗ creds 1 c ∗ creds 3 c)
    ∗ owes (c : Thread nD τ) (owed₀ c) ∅ ∗ ∃ r, prngReg c r)
/-- Its ghost state. -/
def ghost (c : Dev nD) : sProp 𝕄 := iprop(atPos ER (barCell c) 0 ∅ 0 ∗ dormant c ∗ myDuties c)

theorem first_intro (κ : GSem nD τ sig → ℕ) (c : Dev nD) : iprop(records m κ ∗ (ghost c ∗ holdings m c)) ⊢ first m c := by
  unfold first beside Tk ghost holdings linear myDuties
  iintro ⟨#HR, ⟨Hat, Hd, Hb, Ht⟩, Hh, Hc, HO, Hp⟩
  isplitl [Hh]; · iexact Hh
  isplitr [Hp HO]
  · isplitr; · iexists κ; iexact HR
    isplitl [Hd]; · iexact Hd
    isplitl [Hat]; · iexact Hat
    isplitl [Hb]; · iexact Hb
    isplitl [Ht] <;> iassumption
  isplitl [Hp]; · iexact Hp
  iexists ∅; iexact HO

theorem unscoped_bar (c : Dev nD) : (unscopedSems0 c : sProp 𝕄) = semVal (barCell c) 0 := by
  unfold unscopedSems0
  rw [show (Finset.univ.filter fun sm : SemLoc sig => ¬ sm.isScoped .tc) = {barS} from by decide, BI.bigSep_singleton]

theorem launch_split (c : Dev nD) : iprop(unscopedBufs c (fun b => m ((c : Thread nD τ).loc b)) ∗ unscopedSems0 c
      ∗ owes (c : Thread nD τ) (owed₀ c) ∅ ∗ Pipeline.launchCred owed₀ c ∗ prngReg c (ρ c) ∗ seed c)
    ⊢ (iprop(holdings m c ∗ (semVal (barCell c) 0 ∗ seed c)) : sProp 𝕄) := by
  rw [show unscopedBufs c (fun b => m ((c : Thread nD τ).loc b)) = StableHlo.held (c.tc : Thread nD τ) (ucRefs τ sig) (V₀ m c) from
    Pipeline.unscopedBufs_held c (V₀ m c), unscoped_bar]
  unfold holdings
  iintro ⟨Hh, Hus, HO, Hcr, Hp, HG⟩
  isplitr [Hus HG]
  · isplitl [Hh]; · iexact Hh
    isplitl [Hcr]; · iapply (launch_credit (F := F) c); iexact Hcr
    isplitl [HO]; · iexact HO
    iexists (ρ c); iexact Hp
  isplitl [Hus] <;> iassumption

theorem invs_of (κ : GSem nD τ sig → ℕ) :
    (bigSep (barCells ∪ copyCells) fun g => (cellInv ER (sched (staged m)) (κ g) g : sProp 𝕄)) ⊢ invs (staged m) κ := by
  rw [bigSep_union disjoint_cells, bigSep_map, bigSep_map]
  unfold invs
  show iprop(_ ∗ _) ⊢ (iprop(_ ∗ _) : sProp 𝕄)
  iintro ⟨Hb, Hc⟩
  isplitl [Hc]
  · iexact Hc
  · iexact Hb

/-- Everything dealt: each device's first state, from what the launch gives. -/
theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ seed c)) ∗ levAts L lv)
      ⊢ (|={Set.univ}=> bigSep Finset.univ (first m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ seed c))
      ⊢ (bigSep Finset.univ fun c : Dev nD => iprop(holdings m c ∗ (semVal (barCell c) 0 ∗ seed c)) : sProp 𝕄) from
        bigSep_mono fun c _ => launch_split m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (seed (F := F)) ⊢ BI.own (ER (launchOf barCells copyCells duties₀)) from Entails.of_eq seed_all) $$ HG
  imod (Rounds.fund_launch ER (sched (staged m)) disjoint_cells (fun g _ h => h) duties₀) $$ [Hv Hu] with ⟨%κ, -, #Hinv, #Hr, Hat, Hopen, Htok⟩
  · isplitl [Hv]
    · iapply (show bigSep Finset.univ (fun c : Dev nD => (semVal (barCell c) 0 : sProp 𝕄)) ⊢ bigSep barCells (fun g => (semVal g 0 : sProp 𝕄)) from
        Entails.of_eq (bigSep_map (s := Finset.univ) barEmb (Φ := fun g : GSem nD τ sig => (semVal g 0 : sProp 𝕄))).symm) $$ Hv
    · iexact Hu
  imodintro
  iapply (bigSep_with_persistent (R := records m κ) (Φ := fun c => iprop(ghost c ∗ holdings m c)) fun c _ => first_intro m κ c)
  isplitr
  · unfold records
    isplitr; · iapply (invs_of m κ); iexact Hinv
    iapply (show bigSep barCells (fun g => (reached ER g 0 : sProp 𝕄)) ⊢ bigSep Finset.univ (fun c : Dev nD => (reached ER (barCell c) 0 : sProp 𝕄)) from
      Entails.of_eq (bigSep_map (s := Finset.univ) barEmb (Φ := fun g : GSem nD τ sig => (reached ER g 0 : sProp 𝕄)))); iexact Hr
  iapply (Entails.of_eq (bigSep_sep' _ _ _).symm)
  isplitr [HB]
  · unfold ghost
    iapply (Entails.of_eq (bigSep_sep' _ _ _).symm); isplitl [Hat]
    · iapply (show bigSep barCells (fun g => (atPos ER g 0 ∅ 0 : sProp 𝕄)) ⊢ bigSep Finset.univ (fun c : Dev nD => (atPos ER (barCell c) 0 ∅ 0 : sProp 𝕄)) from
        Entails.of_eq (bigSep_map (s := Finset.univ) barEmb (Φ := fun g : GSem nD τ sig => (atPos ER g 0 ∅ 0 : sProp 𝕄)))) $$ Hat
    iapply (Entails.of_eq (bigSep_sep' _ _ _).symm); isplitl [Hopen]
    · iapply (show bigSep copyCells (fun g => (openTok ER g : sProp 𝕄)) ⊢ bigSep Finset.univ (fun c : Dev nD => (dormant c : sProp 𝕄)) from
        Entails.of_eq ((bigSep_map (s := Finset.univ) cellEmb (Φ := fun g : GSem nD τ sig => (openTok ER g : sProp 𝕄))).trans (bigSep_univ_prod _))) $$ Hopen
    iapply (Entails.of_eq (duties_by_device.trans duties_dealt)) $$ Htok
  · iexact HB

/-! ## The run -/

theorem unscoped_sem : ∀ sm : SemLoc sig, sm.isScoped .tc = false → sm = barS := by decide

theorem held_list (c : Dev nD) (W : Valuation τ sig (Elt F)) : (StableHlo.held (c.tc : Thread nD τ) (ucRefs τ sig) W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_v1 ↦{fullShare} W main_v1)
      ∗ ((c : Thread nD τ).loc main_v2 ↦{fullShare} W main_v2)) := by
  unfold StableHlo.held
  rw [bigSep_eq_bigSepL_of_eq [Proc.devRef .tc main_arg0, Proc.devRef .tc main_arg1, Proc.devRef .tc main_arg2, Proc.devRef .tc main_v1, Proc.devRef .tc main_v2]
    (by decide) (by decide)]
  rfl

/-- What a final memory holds on device `c`: its inputs unchanged, the exchange's result. -/
def ends (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_v2) = outV (staged m) c

theorem final (c : Dev nD) (s' : Phys nD τ sig (Elt F)) :
    iprop(last m c ∗ SI s') ⊢ (|={Set.univ}=> iprop(⌜ends m c s'.mem ∧ s'.mem.sem (barCell c) = 0⌝ ∗ SI s') : sProp 𝕄) := by
  unfold last; rw [held_list]
  iintro ⟨⟨⟨H0, H1, H2, -, Hv⟩, Hb⟩, HSI⟩
  icombine HSI H0 gives %h0
  icombine HSI H1 gives %h1
  icombine HSI H2 gives %h2
  icombine HSI Hv gives %hv
  icombine HSI Hb gives %hb
  imodintro
  isplitr
  · ipureintro
    refine ⟨⟨(Buf.eq_of_forall_mem_univ h0).trans ?_, (Buf.eq_of_forall_mem_univ h1).trans ?_, (Buf.eq_of_forall_mem_univ h2).trans ?_,
      (Buf.eq_of_forall_mem_univ hv).trans (V₂_result m c)⟩, by simpa using hb⟩
    · exact (V₂_other m c (by decide)).trans (V_main_arg0 m c)
    · exact (V₂_other m c (by decide)).trans (V_main_arg1 m c)
    · exact (V₂_other m c (by decide)).trans (V_main_arg2 m c)
  iexact HSI

set_option backward.isDefEq.respectTransparency.types false in
/-- From any memory with zero counters, every fair execution of the program on the four devices ends, with every input
    unchanged, the exchange's result on every device, and every counter back at zero. -/
theorem run_main : θ_run defs (onTc (τ := τ) (main (F := F))) ⟨m, fun _ => 0, ρ⟩ (fun r => (∀ c : Dev nD, ends m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed₀) (hL := L_of_ne) (G := seed) (u₀ := u₀)
    (hu₀ := by
      unfold u₀
      rw [seed_all]
      iintro Hu
      ihave H := (ownU_pair _ _) $$ Hu
      icases H with ⟨HP, HX⟩
      imodintro
      isplitl [HP] <;> iassumption)
    (T₀ := first m) (Tₙ := last m)
    (hch := ⟨fun c => .rfl, fun c => region_pre m c, fun c => region_post m c⟩)
    (hinit := init m ρ)
    (QY := fun c s => ends m c s ∧ s.sem (barCell c) = 0)
    (hfin := final m)
    (hQ := fun s h hs => ⟨fun c => (h c).1, sem_eq_zero hs fun c sm hsm => by
      obtain rfl := unscoped_sem sm hsm
      exact (h c).2⟩)

end Cert.KernelIdeal.Chunked
-- ==== Proof.Norm.lean ====
/- A row's normalisation over the extended reals.

   The kernel multiplies by the reciprocal of a root, the reference divides by the root. Over a row of
   extended reals the two agree without exception: a sum of squares is never negative, and where it is
   infinite both give zero. -/
module

public import Idealize.ShloMosaic.Lib.IdealHost
public import Mathlib.Data.EReal.Inv

@[expose] public section

noncomputable section

namespace Cert.RowNorm

open Idealize.ShloMosaic

/-- The length of a row, as the reference writes it. -/
abbrev len : EReal := Ideal.ofBits .f32 0x44800000#32
/-- Its reciprocal, as the kernel writes it. -/
abbrev invLen : EReal := Ideal.ofBits .f32 0x3A800000#32
/-- What both add to the mean of the squares. -/
abbrev eps : EReal := Ideal.ofBits .f32 0x358637BD#32

theorem len_eq : len = ((1024 : ℝ) : EReal) := by
  simp [len, Ideal.ofBits, Ideal.ieee, -EReal.coe_mul]; norm_num

theorem invLen_eq : invLen = ((1 / 1024 : ℝ) : EReal) := by
  simp [invLen, Ideal.ofBits, Ideal.ieee, -EReal.coe_mul]; norm_num

theorem eps_eq : eps = ((8796093 / 2 ^ 43 : ℝ) : EReal) := by
  simp [eps, Ideal.ofBits, Ideal.ieee, -EReal.coe_mul]; norm_num

theorem eps_pos : 0 < eps := by
  rw [eps_eq]; exact_mod_cast (by norm_num : (0 : ℝ) < 8796093 / 2 ^ 43)

/-- A square is never negative. -/
theorem square_nonneg (y : EReal) : 0 ≤ y * y := by
  induction y with
  | bot => simp
  | top => simp
  | coe r => rw [← EReal.coe_mul]; exact_mod_cast mul_self_nonneg r

/-- Dividing by the length is multiplying by its reciprocal. -/
theorem mean_eq (s : EReal) : Ideal.div s len = s * invLen := by
  rw [len_eq, invLen_eq]; exact Ideal.div_coe (by norm_num) s

/-- Over a positive radicand, dividing by the root is multiplying by the reciprocal of the root. -/
theorem div_sqrt (y t : EReal) (ht : 0 < t) : Ideal.div y (Ideal.sqrt t) = y * Ideal.rsqrt t := by
  induction t with
  | bot => simp at ht
  | top =>
    show Ideal.div y ⊤ = y * 0
    simp [Ideal.div]
  | coe r =>
    have hr : 0 < r := by exact_mod_cast ht
    rw [show Ideal.sqrt (r : EReal) = (Real.sqrt r : EReal) from if_neg (not_lt.2 hr.le),
      show Ideal.rsqrt (r : EReal) = (((Real.sqrt r)⁻¹ : ℝ) : EReal) from (if_neg (not_lt.2 hr.le)).trans (if_neg hr.ne'),
      Ideal.div_coe (Real.sqrt_pos.2 hr).ne', one_div]

variable {n : ℕ}

/-- A row divided by the root of the mean of its squares and scaled, as the reference computes it. -/
def byRoot (y g : Fin n → EReal) (j : Fin n) : EReal :=
  Ideal.div (y j) (Ideal.sqrt (Ideal.div (∑ t, y t * y t) len + eps)) * g j

/-- The same, as the kernel computes it. -/
def byReciprocal (y g : Fin n → EReal) (j : Fin n) : EReal :=
  (y j * Ideal.rsqrt ((∑ t, y t * y t) * invLen + eps)) * g j

/-- The two agree on every row. -/
theorem byReciprocal_eq (y g : Fin n → EReal) (j : Fin n) : byReciprocal y g j = byRoot y g j := by
  have hs : 0 ≤ ∑ t, y t * y t := Finset.sum_nonneg fun t _ => square_nonneg (y t)
  have hm : 0 ≤ (∑ t, y t * y t) * invLen := mul_nonneg hs (by rw [invLen_eq]; exact_mod_cast (by norm_num : (0 : ℝ) ≤ 1 / 1024))
  unfold byReciprocal byRoot
  rw [mean_eq, div_sqrt _ _ (lt_of_lt_of_le eps_pos (le_add_of_nonneg_left hm))]

end Cert.RowNorm

end
-- ==== Proof.KerValue.lean ====
/- The kernel's result over the extended reals, element by element. -/
module

public import proofs.«01_k».proof.Proof.Norm
public import proofs.«01_k».proof.Proof.Region
public import Idealize.ShloMosaic.PureOps.Ideal.Laws
public import Idealize.ShloMosaic.Lib.ValueIdx
public import Idealize.ShloMosaic.Lib.ValueLayout
public import Idealize.ShloMosaic.Lib.StableHlo.Run

@[expose] public section

noncomputable section

namespace Cert.KernelIdeal.Chunked

open Idealize.ShloMosaic Idealize.ShloMosaic.ValueIdx Idealize.ShloMosaic.TcCoe Idealize.SL.Sem
open Cert.KernelIdeal.Gen

/-! ## A chunk's rows -/

/-- A vector cast to a column reads the vector. -/
theorem column_apply {α : Type} {n : ℕ} (x : (⟨1, ![n]⟩ : Shape).Idx → α) (h : (⟨1, ![n]⟩ : Shape).ShapeCasts ⟨2, ![n, 1]⟩) (i : Fin n) :
    shapeCast ⟨2, ![n, 1]⟩ x h (ix2 i 0) = x (ix1 i) :=
  shapeCast_apply x h _ _ (by
    rw [Shape.rowMajor_val_one, Shape.rowMajor_val_two]
    show i.val = i.val * 1 + 0
    omega)

/-- A column spread over a row's places reads the column. -/
theorem spread_apply {α : Type} {n l : ℕ} (v : (⟨2, ![n, 1]⟩ : Shape).Idx → α) (h : (⟨2, ![n, 1]⟩ : Shape).Broadcasts ⟨2, ![n, l]⟩)
    (i : Fin n) (j : Fin l) : broadcastTo ⟨2, ![n, l]⟩ v h (ix2 i j) = v (ix2 i 0) :=
  broadcastTo_apply v h _ _ fun a => match a with
    | ⟨0, _⟩ => by
      show i.val = if n = 1 then 0 else i.val
      have := i.isLt
      split <;> omega
    | ⟨1, _⟩ => rfl

/-- A sum along the rows of a matrix reads as the sum of the row. -/
theorem rowSum_apply {n l : ℕ} (v : FVec Ideal ⟨2, ![n, l]⟩ .f32) (h : (⟨2, ![n, l]⟩ : Shape).Reduces [1] ⟨1, ![n]⟩) (i : Fin n) :
    multiReduction .add [1] ⟨1, ![n]⟩ v 0x00000000#32 h (.inl rfl) rfl (ix1 i) = ∑ t : Fin l, v (ix2 i t) := by
  refine (Ideal.multiReduction_add_single v _ h _ _ _).trans (Finset.sum_congr rfl fun t _ => congrArg v (funext fun a => Fin.ext ?_))
  rw [Shape.Reduces.lift_val]
  match a with
  | ⟨0, _⟩ => rfl
  | ⟨1, _⟩ => rfl

/-- Row `a` of what a chunk's step stores is the normalised sum of the rows it loads. -/
theorem pay_apply (k : Fin nC) (vp : Vec Ideal (Sh3 k) .f32) (vb vr : Vec Ideal (Sh k) .f32) (vg : Vec Ideal S1x1024 .f32)
    (a : Fin (rows k)) (j : Fin 1024) :
    pay k vp vb vr vg (ix2 a j)
      = RowNorm.byReciprocal (fun t => (vp (ix3 0 a t) + vb (ix2 a t)) + vr (ix2 a t)) (fun t => vg (ix2 0 t)) j := by
  have hy : ∀ t, (addf (addf (shapeCast (Sh k) vp (casts3 k)) vb) (shapeCast (Sh k) vr (casts2 k)) : FVec Ideal (Sh k) .f32) (ix2 a t)
      = (vp (ix3 0 a t) + vb (ix2 a t)) + vr (ix2 a t) := fun t => by
    rw [addf_apply, addf_apply, shapeCast_self, shapeCast_1ab_ab_apply]
  unfold pay RowNorm.byReciprocal
  simp only [← hy]
  generalize (addf (addf (shapeCast (Sh k) vp (casts3 k)) vb) (shapeCast (Sh k) vr (casts2 k)) : FVec Ideal (Sh k) .f32) = y
  rw [mulf_apply, mulf_apply, spread_apply, broadcastTo_1b_ab_apply, shapeCast_self]
  refine congrArg (fun s => y (ix2 a j) * Ideal.rsqrt (s * RowNorm.invLen + RowNorm.eps) * vg (ix2 0 j)) ?_
  exact (column_apply _ _ _).trans (rowSum_apply _ _ _)

/-! ## The whole result -/

variable (I : Inp Ideal)

theorem read_p (d : Dev nD) (k : Fin nC) (a : Fin (rows k)) (r t : Fin 1024) (hr : r.val = base d + start k + a.val) :
    (pM.access (rectP d k)).read (Elt Ideal) (I.p d) (ix3 0 a t) = I.p d (ix3 (0 : Fin 1) r t) := by
  refine congrArg (I.p d) (funext fun b => Fin.ext ?_)
  refine (ValueKit.view_emb_slice_whole_unit_val cc0_stg0_0 (k0_off4 d (startW k)) (Sh3 k).size (offPl_inb d k) (ix3 0 a t) b).trans ((congrArg (· + _) (congrFun (offPl_eq d k) b)).trans ?_)
  match b with
  | ⟨0, _⟩ => rfl
  | ⟨1, _⟩ => exact hr.symm
  | ⟨2, _⟩ => exact Nat.zero_add _

theorem part_apply (d : Dev nD) (k : Fin nC) (a : Fin (rows k)) (r t : Fin 1024) (hr : r.val = base d + start k + a.val) :
    part I d k (ix2 a t) = I.p d (ix3 (0 : Fin 1) r t) := by
  refine (shapeCast_1ab_ab_apply ((pM.access (Rect.unit (s := S1x1024x1024) (k0_off1 d (startW k)) (Sh3 k).size (offP_inb d k))).read (Elt Ideal) (I.p d))
    (casts3 k) a t).trans (congrArg (I.p d) (funext fun b => Fin.ext ?_))
  refine (ValueKit.view_emb_slice_whole_unit_val cc0_stg0_0 (k0_off1 d (startW k)) (Sh3 k).size (offP_inb d k) (ix3 0 a t) b).trans ((congrArg (· + _) (congrFun (offP_eq d k) b)).trans ?_)
  match b with
  | ⟨0, _⟩ => rfl
  | ⟨1, _⟩ => exact hr.symm
  | ⟨2, _⟩ => exact Nat.zero_add _

theorem read_r (d : Dev nD) (k : Fin nC) (a : Fin (rows k)) (r t : Fin 1024) (hr : r.val = base d + start k + a.val) :
    (rM.access (rectR d k)).read (Elt Ideal) (I.r d) (ix2 a t) = I.r d (ix2 r t) := by
  refine congrArg (I.r d) (funext fun b => Fin.ext ?_)
  refine (ValueKit.view_emb_slice_whole_unit_val cc0_stg1_0 (k0_off5 d (startW k)) (Sh k).size (offR_inb d k) (ix2 a t) b).trans ((congrArg (· + _) (congrFun (offR_eq d k) b)).trans ?_)
  match b with
  | ⟨0, _⟩ => exact hr.symm
  | ⟨1, _⟩ => exact Nat.zero_add _

theorem read_g (d : Dev nD) (t : Fin 1024) : (gM.access rectG).read (Elt Ideal) (I.g d) (ix2 0 t) = I.g d (ix2 (0 : Fin 1) t) := by
  refine congrArg (I.g d) (funext fun b => Fin.ext ?_)
  refine (ValueKit.view_emb_slice_whole_unit_val cc0_stg2_0 ![0, 0] S1x1024.size inb_S1x1024_S1x1024_0_0 (ix2 0 t) b).trans ?_
  match b with
  | ⟨0, _⟩ => rfl
  | ⟨1, _⟩ => exact Nat.zero_add _

/-- A device's partial sum at a row and a place. -/
abbrev pAt (d : Dev nD) (r t : Fin 1024) : EReal := I.p d (ix3 (0 : Fin 1) r t)
/-- A device's residual at a row and a place. -/
abbrev rAt (d : Dev nD) (r t : Fin 1024) : EReal := I.r d (ix2 r t)
/-- A device's scale at a place. -/
abbrev gAt (d : Dev nD) (t : Fin 1024) : EReal := I.g d (ix2 (0 : Fin 1) t)

/-- Row `r` of the result that device `c` ends with: the device of its column that works on the row adds its own
    partial sums, its neighbour's and the residual, and normalises. -/
theorem outV_apply (c : Dev nD) (r j : Fin 1024) :
    outV I c (ix2 r j) = RowNorm.byReciprocal
      (fun t => (pAt I (rowDev c r.val r.isLt) r t + pAt I (toY (rowDev c r.val r.isLt)) r t) + rAt I (rowDev c r.val r.isLt) r t)
      (gAt I (rowDev c r.val r.isLt)) j := by
  generalize hd : rowDev c r.val r.isLt = d
  have hdv : 2 * (r.val / 512) + c.val % 2 = d.val := congrArg Fin.val hd
  obtain ⟨h₁, h₂⟩ := chunkOf_spec (r.val % 512) (Nat.mod_lt _ (by decide))
  generalize chunkOf (r.val % 512) = k at h₁ h₂
  have hb : base d = 512 * (d.val / 2) := rfl
  have hbY : base (toY d) = base d := congrArg (512 * ·) (toY_half d)
  let a : Fin (rows k) := ⟨r.val % 512 - start k, by omega⟩
  have hr : r.val = base d + start k + a.val := by show r.val = base d + start k + (r.val % 512 - start k); omega
  have he : (oView oM d k).view.emb (ix2 a j) = ix2 r j := by
    rw [emb_o]
    funext b
    match b with
    | ⟨0, _⟩ => exact Fin.ext hr.symm
    | ⟨1, _⟩ => rfl
  refine (congrArg (outV I c) he).symm.trans ((outV_emb I c d (by omega) k (ix2 a j)).trans ((pay_apply k _ _ _ _ a j).trans ?_))
  refine congrArg₂ (fun f g => RowNorm.byReciprocal f g j) (funext fun t => ?_) (funext fun t => read_g I d t)
  rw [read_p I d k a r t hr, part_apply I (toY d) k a r t (by rw [hbY]; exact hr), read_r I d k a r t hr]

/-! ## What is staged -/

variable (m : (ℓ : Loc nD τ sig) → Buf (Elt Ideal) ℓ)

theorem staged_p (c : Dev nD) : (staged m).p c = m ((c : Thread nD τ).loc main_arg0) := by
  refine Eq.trans ?_ (V_main_arg0 m c)
  funext x
  exact congrArg (V m c main_arg0) (funext fun a => Fin.ext (by
    refine (ValueKit.rect_emb_unit_val _ _ _ _ a).trans ?_
    exact (congrArg (· + _) (Nat.zero_mul _)).trans (Nat.zero_add _)))

theorem staged_r (c : Dev nD) : (staged m).r c = m ((c : Thread nD τ).loc main_arg1) := by
  refine Eq.trans ?_ (V_main_arg1 m c)
  funext x
  exact congrArg (V m c main_arg1) (funext fun a => Fin.ext (by
    refine (ValueKit.rect_emb_unit_val _ _ _ _ a).trans ?_
    exact (congrArg (· + _) (Nat.zero_mul _)).trans (Nat.zero_add _)))

theorem staged_g (c : Dev nD) (t : Fin 1024) : (staged m).g c (ix2 (0 : Fin 1) t) = m ((c : Thread nD τ).loc main_arg2) (ix1 t) := by
  have h : V m c main_v1 = shapeCast S1x1024 (m ((c : Thread nD τ).loc main_arg2)) shapeCasts_S1024_S1x1024 := by
    unfold V hostOps0
    after_results
    rfl
  refine Eq.trans ?_ ((congrFun h (ix2 0 t)).trans (shapeCast_a_1a_apply _ _ 0 t))
  exact congrArg (V m c main_v1) (funext fun a => Fin.ext (by
    refine (ValueKit.rect_emb_unit_val _ _ _ _ a).trans ?_
    exact (congrArg (· + _) (Nat.zero_mul _)).trans (Nat.zero_add _)))

end Cert.KernelIdeal.Chunked
-- ==== Proof.RefValue.lean ====
/- The reference's result, element by element. -/
module

public import proofs.«01_k».proof.Proof.Norm
public import proofs.«01_k».proof.Proof.Gen.ReferenceIdeal.Run
public import Idealize.ShloMosaic.Lib.Pointwise

@[expose] public section

noncomputable section

namespace Cert.ReferenceIdeal.Rows

open Idealize.ShloMosaic Cert.ReferenceIdeal Cert.ReferenceIdeal.Gen

/-- The reference's sum of the partial sums and the residual. -/
def total (P : FVec Ideal S2x1024x1024 .f32) (R : FVec Ideal S1024x1024 .f32) : FVec Ideal S1024x1024 .f32 :=
  addf (Host.reduceAdd P (constant S_ .f32 0x00000000#32) reducesTo_S2x1024x1024_S1024x1024_d0 h_S_) R

/-- The reference's result, from its three arguments. -/
def result (P : FVec Ideal S2x1024x1024 .f32) (R : FVec Ideal S1024x1024 .f32) (G : FVec Ideal S1024 .f32) : FVec Ideal S1024x1024 .f32 :=
  mulf (Host.divf (total P R) (broadcastInDim S1024x1024 ![0, 1] bcast_S1024x1_S1024x1024_0_1
      (Host.sqrt (addf (Host.divf (broadcastInDim S1024x1 ![0] bcast_S1024_S1024x1_0
          (Host.reduceAdd (mulf (total P R) (total P R)) (constant S_ .f32 0x00000000#32) reducesTo_S1024x1024_S1024_d1 h_S_))
        (broadcastInDim S1024x1 ![] bcast_S_S1024x1 (constant S_ .f32 0x44800000#32)))
        (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 G))

theorem total_apply (P : FVec Ideal S2x1024x1024 .f32) (R : FVec Ideal S1024x1024 .f32) (i j : Fin 1024) :
    total P R (ix2 i j) = (P (ix3 0 i j) + P (ix3 1 i j)) + R (ix2 i j) := by
  pointwise [total]
  rw [Fin.sum_univ_two]

/-- Row `i` of the result is row `i` of the total, normalised. -/
theorem result_apply (P : FVec Ideal S2x1024x1024 .f32) (R : FVec Ideal S1024x1024 .f32) (G : FVec Ideal S1024 .f32) (i j : Fin 1024) :
    result P R G (ix2 i j) = RowNorm.byRoot (fun t => total P R (ix2 i t)) (fun t => G (ix1 t)) j := by
  pointwise [result]
  rfl

end Cert.ReferenceIdeal.Rows

end
-- ==== Proof.Equation.lean ====
/- The kernel's result is the reference's. -/
module

public import proofs.«01_k».proof.Proof.KerValue
public import proofs.«01_k».proof.Proof.RefValue
public import Idealize.ShloMosaic.Lib.Layout

@[expose] public section

noncomputable section

namespace Cert.KernelIdeal.Chunked

open Idealize.ShloMosaic Idealize.ShloMosaic.TcCoe Idealize.SL.Sem
open Cert.KernelIdeal.Gen

/-- The part of the partial sums that device `c` holds is the matrix its place along `y` names. -/
theorem block_apply (P : FVec Ideal (⟨3, ![2, 1024, 1024]⟩ : Shape) .f32) (c : Dev nD) (r t : Fin 1024) :
    (Layout.blockN ⟨3, ![1, 1024, 1024]⟩ ⟨3, ![2, 1024, 1024]⟩ (Layout.meshBlock [2, 2] ![[1], [], []] c) P) (ValueIdx.ix3 (0 : Fin 1) r t)
      = P (ix3 (⟨c.val % 2, Nat.mod_lt _ (by decide)⟩ : Fin 2) r t) := by
  have hc : ∀ c : Dev nD, ((Layout.meshBlock [2, 2] ![[1], [], []] c) (0 : Fin 3)).val = c.val % 2 := by decide +kernel
  rw [Layout.blockN_apply]
  refine congrArg P (funext fun a => Fin.ext ?_)
  rw [Layout.TilesN.idx_val]
  match a with
  | ⟨0, _⟩ => exact (congrArg (· * 1 + 0) (hc c)).trans (Nat.mul_one _)
  | ⟨1, _⟩ => exact (congrArg (· + r.val) (Nat.zero_mul _)).trans (Nat.zero_add _)
  | ⟨2, _⟩ => exact (congrArg (· + t.val) (Nat.zero_mul _)).trans (Nat.zero_add _)

variable (m : (ℓ : Loc nD τ sig) → Buf (Elt Ideal) ℓ)
  (P : FVec Ideal (⟨3, ![2, 1024, 1024]⟩ : Shape) .f32) (R : FVec Ideal (⟨2, ![1024, 1024]⟩ : Shape) .f32) (G : FVec Ideal (⟨1, ![1024]⟩ : Shape) .f32)

/-- If every device is launched with its part of the reference's arguments, every device's result is the
    reference's. -/
theorem outV_eq
    (hP : ∀ c : Dev nD, m ((c : Thread nD τ).loc main_arg0)
      = Layout.blockN ⟨3, ![1, 1024, 1024]⟩ ⟨3, ![2, 1024, 1024]⟩ (Layout.meshBlock [2, 2] ![[1], [], []] c) P)
    (hR : ∀ c : Dev nD, m ((c : Thread nD τ).loc main_arg1) = R)
    (hG : ∀ c : Dev nD, m ((c : Thread nD τ).loc main_arg2) = G) (c : Dev nD) :
    outV (staged m) c = ReferenceIdeal.Rows.result P R G := by
  funext i
  obtain ⟨r, j, rfl⟩ : ∃ (r j : Fin 1024), i = ValueIdx.ix2 r j := ⟨i 0, i 1, ValueIdx.eq_ix2 i⟩
  refine (outV_apply (staged m) c r j).trans ((RowNorm.byReciprocal_eq _ _ _).trans
    (Eq.trans ?_ (ReferenceIdeal.Rows.result_apply P R G r j).symm))
  generalize rowDev c r.val r.isLt = d
  have hp : ∀ (e : Dev nD) (t : Fin 1024), pAt (staged m) e r t = P (ix3 (⟨e.val % 2, Nat.mod_lt _ (by decide)⟩ : Fin 2) r t) := fun e t =>
    (congrFun ((staged_p m e).trans (hP e)) _).trans (block_apply P e r t)
  have hr : ∀ t : Fin 1024, rAt (staged m) d r t = R (ix2 r t) := fun t => congrFun ((staged_r m d).trans (hR d)) _
  have hg : ∀ t : Fin 1024, gAt (staged m) d t = G (ix1 t) := fun t => (staged_g m d t).trans (congrFun (hG d) _)
  refine congrArg₂ (fun f g => RowNorm.byRoot f g j) (funext fun t => ?_) (funext hg)
  rw [hp, hp, hr, ReferenceIdeal.Rows.total_apply]
  refine congrArg (· + R (ix2 r t)) ?_
  have hY := toY_col d
  have hd : d.val % 2 = 0 ∨ d.val % 2 = 1 := by omega
  rcases hd with h | h
  · exact congrArg₂ (· + ·) (congrArg (fun a => P (ix3 a r t)) (Fin.ext h)) (congrArg (fun a => P (ix3 a r t)) (Fin.ext (hY.trans (by rw [h]; rfl))))
  · refine Eq.trans ?_ (add_comm _ _)
    exact congrArg₂ (· + ·) (congrArg (fun a => P (ix3 a r t)) (Fin.ext h)) (congrArg (fun a => P (ix3 a r t)) (Fin.ext (hY.trans (by rw [h]; rfl))))

end Cert.KernelIdeal.Chunked
-- ==== Proof.lean ====
/- The claims, from the run of the kernel on four devices, the run of the reference, and the equation of their results. -/
module

public import proofs.«01_k».proof.Defs
public import proofs.«01_k».proof.Proof.Gen.Kernel
public import proofs.«01_k».proof.Proof.Run
public import proofs.«01_k».proof.Proof.Equation
public import Idealize.ShloMosaic.Lib.Quiescent

@[expose] public section

noncomputable section

namespace Cert.Proof

open Idealize.ShloMosaic Idealize.SL.Sem
open Cert.KernelIdeal.Chunked (run_main outV_eq)

/-- The two printed programs call the same bodies. -/
theorem bodies_eq : Cert.Kernel.defs₀ (F := Bits) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))

theorem defs_eq : Cert.Kernel.defs (F := Bits) = Cert.KernelIdeal.defs (F := Bits) :=
  congrArg (Pipeline.defs Cert.KernelIdeal.pcfgs) bodies_eq

/-- The kernel on bit patterns runs, its inputs stay, and its counters return to zero. -/
theorem frame_kernel : Cert.quiescent_Kernel := fun m g _ =>
  (congrArg (fun D => θ_run D (onTc (τ := Cert.Kernel.τ) (Cert.Kernel.main (F := Bits))) ⟨m, fun _ => 0, g⟩ _) defs_eq).mpr
    ((θ_run Cert.KernelIdeal.defs _ _).mono (fun _ h => ⟨fun c => ⟨(h.1 c).1, (h.1 c).2.1, (h.1 c).2.2.1⟩, h.2⟩) (run_main (F := Bits) m g))

/-- The kernel on extended reals runs, its inputs stay, and its counters return to zero. -/
theorem frame_ideal : Cert.quiescent_KernelIdeal := fun m g _ =>
  (θ_run Cert.KernelIdeal.defs _ _).mono (fun _ h => ⟨fun c => ⟨(h.1 c).1, (h.1 c).2.1, (h.1 c).2.2.1⟩, h.2⟩) (run_main m g)

/-- The reference runs and its inputs stay; it has no counters. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- The kernel computes what the reference computes. -/
theorem same_result : Cert.algebraic_KernelIdeal_ReferenceIdeal := fun m g m' g' _ h =>
  ⟨Cert.ReferenceIdeal.Rows.result _ _ _,
    (θ_run Cert.KernelIdeal.defs _ _).mono (fun _ e c => ⟨(e.1 c).2.2.2.trans
        (outV_eq m _ _ _ (fun c => (h c).1) (fun c => (h c).2.1) (fun c => (h c).2.2) c), (e.1 c).1, (e.1 c).2.1, (e.1 c).2.2.1⟩)
      (run_main m g),
    (θ_run Cert.ReferenceIdeal.defs _ _).mono (fun _ e => e 0) (Cert.ReferenceIdeal.Value.run m' g')⟩

theorem claim : Cert.Claim :=
  ⟨Cert.Kernel.Gen.facts, Cert.KernelIdeal.Gen.facts, Cert.ReferenceIdeal.Gen.facts,
    frame_kernel, frame_ideal, frame_reference, trivial, same_result⟩

end Cert.Proof

end
